-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S640x256 : Shape := ⟨2, ![640, 256]⟩
abbrev S320x256 : Shape := ⟨2, ![320, 256]⟩
abbrev S768x256 : Shape := ⟨2, ![768, 256]⟩
abbrev S384x256 : Shape := ⟨2, ![384, 256]⟩
abbrev S54 : Shape := ⟨1, ![54]⟩
abbrev S_ : Shape := ⟨0, ![]⟩
abbrev S80x256 : Shape := ⟨2, ![80, 256]⟩
abbrev S96x256 : Shape := ⟨2, ![96, 256]⟩
abbrev S1 : Shape := ⟨1, ![1]⟩
abbrev S160x256 : Shape := ⟨2, ![160, 256]⟩
abbrev S192x256 : Shape := ⟨2, ![192, 256]⟩

abbrev nBuf : Space → Nat
  | .hbm => 2
  | .vmem => 20
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .local _ .vmem, ⟨0, _⟩ => ⟨S2048x512, .bf16⟩
  | .local _ .vmem, ⟨1, _⟩ => ⟨S2048x512, .bf16⟩
  | .local _ .vmem, ⟨2, _⟩ => ⟨S640x256, .bf16⟩
  | .local _ .vmem, ⟨3, _⟩ => ⟨S640x256, .bf16⟩
  | .local _ .vmem, ⟨4, _⟩ => ⟨S320x256, .f32⟩
  | .local _ .vmem, ⟨5, _⟩ => ⟨S640x256, .bf16⟩
  | .local _ .vmem, ⟨6, _⟩ => ⟨S640x256, .bf16⟩
  | .local _ .vmem, ⟨7, _⟩ => ⟨S320x256, .f32⟩
  | .local _ .vmem, ⟨8, _⟩ => ⟨S768x256, .bf16⟩
  | .local _ .vmem, ⟨9, _⟩ => ⟨S768x256, .bf16⟩
  | .local _ .vmem, ⟨10, _⟩ => ⟨S384x256, .f32⟩
  | .local _ .vmem, ⟨11, _⟩ => ⟨S640x256, .bf16⟩
  | .local _ .vmem, ⟨12, _⟩ => ⟨S640x256, .bf16⟩
  | .local _ .vmem, ⟨13, _⟩ => ⟨S320x256, .f32⟩
  | .local _ .vmem, ⟨14, _⟩ => ⟨S640x256, .bf16⟩
  | .local _ .vmem, ⟨15, _⟩ => ⟨S640x256, .bf16⟩
  | .local _ .vmem, ⟨16, _⟩ => ⟨S320x256, .f32⟩
  | .local _ .vmem, ⟨17, _⟩ => ⟨S768x256, .bf16⟩
  | .local _ .vmem, ⟨18, _⟩ => ⟨S768x256, .bf16⟩
  | .local _ .vmem, ⟨19, _⟩ => ⟨S384x256, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 110 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | _ => false

abbrev sig : RefSig :=
  (ofTc nBuf bufTy 1 110 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_scratch16 : Ref sig .tc := ⟨.vmem, 18, rfl⟩
abbrev cc0_scratch17 : Ref sig .tc := ⟨.vmem, 19, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_243 : BitVec 32 := 1#32
  let v395 : BitVec 32 := Scalar.xori v2 c1_i32_243
  let c1_i32_245 : BitVec 32 := 1#32
  let v396 : BitVec 32 := Scalar.muli v395 c1_i32_245
  let v397 : BitVec 32 := Scalar.addi c0_i32_246 v396
  v397.toNat
def k0_dev2 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v398 : BitVec 32 := Scalar.xori v2 c3_i32
  let c1_i32_248 : BitVec 32 := 1#32
  let v399 : BitVec 32 := Scalar.muli v398 c1_i32_248
  let v400 : BitVec 32 := Scalar.addi c0_i32_249 v399
  v400.toNat
def k0_dev3 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_250 : BitVec 32 := 4#32
  let v401 : BitVec 32 := Scalar.xori v2 c4_i32_250
  let c1_i32_252 : BitVec 32 := 1#32
  let v402 : BitVec 32 := Scalar.muli v401 c1_i32_252
  let v403 : BitVec 32 := Scalar.addi c0_i32_253 v402
  v403.toNat
def k0_off1 (d0 : Dev nD) (c0_i32_254 : BitVec 32) (c1_i32_23 : BitVec 32) (c0_i32_24 : BitVec 32) (c0_i32_25 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v42 : BitVec 32 := Scalar.xori v5 c1_i32_23
  let c1_i32_2 : BitVec 32 := 1#32
  let v6 : BitVec 32 := Scalar.shrsi v2 c1_i32_2
  let c1_i32_3 : BitVec 32 := 1#32
  let v7 : BitVec 32 := Scalar.andi v6 c1_i32_3
  let v43 : BitVec 32 := Scalar.xori v7 c0_i32_24
  let v45 : BitVec 32 := Scalar.xori v42 v43
  let c2_i32_26 : BitVec 32 := 2#32
  let v46 : BitVec 32 := Scalar.muli c2_i32_26 v43
  let v47 : BitVec 32 := Scalar.addi v45 v46
  let c4_i32_27 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v44 : BitVec 32 := Scalar.xori v9 c0_i32_25
  let v48 : BitVec 32 := Scalar.muli c4_i32_27 v44
  let v49 : BitVec 32 := Scalar.addi v47 v48
  let c80_i32 : BitVec 32 := 80#32
  let v404 : BitVec 32 := Scalar.muli v49 c80_i32
  let v405 : BitVec 32 := Scalar.addi c0_i32_254 v404
  let v406 : Index := Scalar.indexCast v405
  let c0 : Index := 0#32
  ![v406.toNat, 0]
def k0_off2 (d0 : Dev nD) (c0_i32_103 : BitVec 32) (c0_i32_104 : BitVec 32) (c1_i32_105 : BitVec 32) : Fin 2 → Nat :=
  let c1280_i32 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v170 : BitVec 32 := Scalar.xori v5 c0_i32_103
  let c1_i32_2 : BitVec 32 := 1#32
  let v6 : BitVec 32 := Scalar.shrsi v2 c1_i32_2
  let c1_i32_3 : BitVec 32 := 1#32
  let v7 : BitVec 32 := Scalar.andi v6 c1_i32_3
  let v171 : BitVec 32 := Scalar.xori v7 c0_i32_104
  let v173 : BitVec 32 := Scalar.xori v170 v171
  let c2_i32_106 : BitVec 32 := 2#32
  let v174 : BitVec 32 := Scalar.muli c2_i32_106 v171
  let v175 : BitVec 32 := Scalar.addi v173 v174
  let c4_i32_107 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v172 : BitVec 32 := Scalar.xori v9 c1_i32_105
  let v176 : BitVec 32 := Scalar.muli c4_i32_107 v172
  let v177 : BitVec 32 := Scalar.addi v175 v176
  let c96_i32 : BitVec 32 := 96#32
  let v468 : BitVec 32 := Scalar.muli v177 c96_i32
  let v469 : BitVec 32 := Scalar.addi c1280_i32 v468
  let v470 : Index := Scalar.indexCast v469
  let c0_288 : Index := 0#32
  ![v470.toNat, 0]
def k0_dev4 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_304 : BitVec 32 := 1#32
  let v500 : BitVec 32 := Scalar.xori v2 c1_i32_304
  let c1_i32_307 : BitVec 32 := 1#32
  let v501 : BitVec 32 := Scalar.muli v500 c1_i32_307
  let v502 : BitVec 32 := Scalar.addi c0_i32_308 v501
  v502.toNat
def k0_dev5 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_313 : BitVec 32 := 3#32
  let v509 : BitVec 32 := Scalar.xori v2 c3_i32_313
  let c1_i32_315 : BitVec 32 := 1#32
  let v510 : BitVec 32 := Scalar.muli v509 c1_i32_315
  let v511 : BitVec 32 := Scalar.addi c0_i32_316 v510
  v511.toNat
def k0_dev6 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_321 : BitVec 32 := 4#32
  let v518 : BitVec 32 := Scalar.xori v2 c4_i32_321
  let c1_i32_323 : BitVec 32 := 1#32
  let v519 : BitVec 32 := Scalar.muli v518 c1_i32_323
  let v520 : BitVec 32 := Scalar.addi c0_i32_324 v519
  v520.toNat
def k0_off3 (d0 : Dev nD) (c0_i32_330 : BitVec 32) (c1_i32_143 : BitVec 32) (c0_i32_144 : BitVec 32) (c0_i32_145 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v234 : BitVec 32 := Scalar.xori v5 c1_i32_143
  let c1_i32_2 : BitVec 32 := 1#32
  let v6 : BitVec 32 := Scalar.shrsi v2 c1_i32_2
  let c1_i32_3 : BitVec 32 := 1#32
  let v7 : BitVec 32 := Scalar.andi v6 c1_i32_3
  let v235 : BitVec 32 := Scalar.xori v7 c0_i32_144
  let v237 : BitVec 32 := Scalar.xori v234 v235
  let c2_i32_146 : BitVec 32 := 2#32
  let v238 : BitVec 32 := Scalar.muli c2_i32_146 v235
  let v239 : BitVec 32 := Scalar.addi v237 v238
  let c4_i32_147 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v236 : BitVec 32 := Scalar.xori v9 c0_i32_145
  let v240 : BitVec 32 := Scalar.muli c4_i32_147 v236
  let v241 : BitVec 32 := Scalar.addi v239 v240
  let c80_i32_329 : BitVec 32 := 80#32
  let v527 : BitVec 32 := Scalar.muli v241 c80_i32_329
  let v528 : BitVec 32 := Scalar.addi c0_i32_330 v527
  let v529 : Index := Scalar.indexCast v528
  let c256 : Index := 256#32
  ![v529.toNat, 256]
def k0_dev7 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_348 : BitVec 32 := 1#32
  let v559 : BitVec 32 := Scalar.xori v2 c1_i32_348
  let c1_i32_350 : BitVec 32 := 1#32
  let v560 : BitVec 32 := Scalar.muli v559 c1_i32_350
  let v561 : BitVec 32 := Scalar.addi c0_i32_351 v560
  v561.toNat
def k0_dev8 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_376 : BitVec 32 := 3#32
  let v600 : BitVec 32 := Scalar.xori v2 c3_i32_376
  let c1_i32_378 : BitVec 32 := 1#32
  let v601 : BitVec 32 := Scalar.muli v600 c1_i32_378
  let v602 : BitVec 32 := Scalar.addi c0_i32_379 v601
  v602.toNat
def k0_off4 (d0 : Dev nD) (c0_i32_223 : BitVec 32) (c0_i32_224 : BitVec 32) (c1_i32_225 : BitVec 32) : Fin 2 → Nat :=
  let c1280_i32_385 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v362 : BitVec 32 := Scalar.xori v5 c0_i32_223
  let c1_i32_2 : BitVec 32 := 1#32
  let v6 : BitVec 32 := Scalar.shrsi v2 c1_i32_2
  let c1_i32_3 : BitVec 32 := 1#32
  let v7 : BitVec 32 := Scalar.andi v6 c1_i32_3
  let v363 : BitVec 32 := Scalar.xori v7 c0_i32_224
  let v365 : BitVec 32 := Scalar.xori v362 v363
  let c2_i32_226 : BitVec 32 := 2#32
  let v366 : BitVec 32 := Scalar.muli c2_i32_226 v363
  let v367 : BitVec 32 := Scalar.addi v365 v366
  let c4_i32_227 : BitVec 32 := 4#32
  let c2_i32 : BitVec 32 := 2#32
  let v8 : BitVec 32 := Scalar.shrsi v2 c2_i32
  let c1_i32_4 : BitVec 32 := 1#32
  let v9 : BitVec 32 := Scalar.andi v8 c1_i32_4
  let v364 : BitVec 32 := Scalar.xori v9 c1_i32_225
  let v368 : BitVec 32 := Scalar.muli c4_i32_227 v364
  let v369 : BitVec 32 := Scalar.addi v367 v368
  let c96_i32_384 : BitVec 32 := 96#32
  let v609 : BitVec 32 := Scalar.muli v369 c96_i32_384
  let v610 : BitVec 32 := Scalar.addi c1280_i32_385 v609
  let v611 : Index := Scalar.indexCast v610
  let c256_386 : Index := 256#32
  ![v611.toNat, 256]
def k0_dev9 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_404 : BitVec 32 := 4#32
  let v641 : BitVec 32 := Scalar.xori v2 c4_i32_404
  let c1_i32_406 : BitVec 32 := 1#32
  let v642 : BitVec 32 := Scalar.muli v641 c1_i32_406
  let v643 : BitVec 32 := Scalar.addi c0_i32_407 v642
  v643.toNat
def k0_dev10 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_432 : BitVec 32 := 3#32
  let v682 : BitVec 32 := Scalar.xori v2 c3_i32_432
  let c1_i32_435 : BitVec 32 := 1#32
  let v683 : BitVec 32 := Scalar.muli v682 c1_i32_435
  let v684 : BitVec 32 := Scalar.addi c0_i32_436 v683
  v684.toNat
def k0_dev11 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_476 : BitVec 32 := 4#32
  let v747 : BitVec 32 := Scalar.xori v2 c4_i32_476
  let c1_i32_478 : BitVec 32 := 1#32
  let v748 : BitVec 32 := Scalar.muli v747 c1_i32_478
  let v749 : BitVec 32 := Scalar.addi c0_i32_479 v748
  v749.toNat
def k0_dev12 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_518 : BitVec 32 := 1#32
  let v812 : BitVec 32 := Scalar.xori v2 c1_i32_518
  let c1_i32_520 : BitVec 32 := 1#32
  let v813 : BitVec 32 := Scalar.muli v812 c1_i32_520
  let v814 : BitVec 32 := Scalar.addi c0_i32_521 v813
  v814.toNat
def k0_dev13 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_561 : BitVec 32 := 3#32
  let v877 : BitVec 32 := Scalar.xori v2 c3_i32_561
  let c1_i32_563 : BitVec 32 := 1#32
  let v878 : BitVec 32 := Scalar.muli v877 c1_i32_563
  let v879 : BitVec 32 := Scalar.addi c0_i32_564 v878
  v879.toNat
def k0_dev14 (d0 : Dev nD) : Nat :=
  let c0_i32_608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_605 : BitVec 32 := 4#32
  let v942 : BitVec 32 := Scalar.xori v2 c4_i32_605
  let c1_i32_607 : BitVec 32 := 1#32
  let v943 : BitVec 32 := Scalar.muli v942 c1_i32_607
  let v944 : BitVec 32 := Scalar.addi c0_i32_608 v943
  v944.toNat
def k0_dev15 (d0 : Dev nD) : Nat :=
  let c0_i32_652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_649 : BitVec 32 := 1#32
  let v1007 : BitVec 32 := Scalar.xori v2 c1_i32_649
  let c1_i32_651 : BitVec 32 := 1#32
  let v1008 : BitVec 32 := Scalar.muli v1007 c1_i32_651
  let v1009 : BitVec 32 := Scalar.addi c0_i32_652 v1008
  v1009.toNat
def k0_dev16 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_694 : BitVec 32 := 4#32
  let v1068 : BitVec 32 := Scalar.xori v2 c4_i32_694
  let c1_i32_697 : BitVec 32 := 1#32
  let v1069 : BitVec 32 := Scalar.muli v1068 c1_i32_697
  let v1070 : BitVec 32 := Scalar.addi c0_i32_698 v1069
  v1070.toNat
def k0_dev17 (d0 : Dev nD) : Nat :=
  let c0_i32_729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_726 : BitVec 32 := 1#32
  let v1105 : BitVec 32 := Scalar.xori v2 c1_i32_726
  let c1_i32_728 : BitVec 32 := 1#32
  let v1106 : BitVec 32 := Scalar.muli v1105 c1_i32_728
  let v1107 : BitVec 32 := Scalar.addi c0_i32_729 v1106
  v1107.toNat
def k0_dev18 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_756 : BitVec 32 := 3#32
  let v1142 : BitVec 32 := Scalar.xori v2 c3_i32_756
  let c1_i32_758 : BitVec 32 := 1#32
  let v1143 : BitVec 32 := Scalar.muli v1142 c1_i32_758
  let v1144 : BitVec 32 := Scalar.addi c0_i32_759 v1143
  v1144.toNat
def k0_dev19 (d0 : Dev nD) : Nat :=
  let c0_i32_790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_787 : BitVec 32 := 4#32
  let v1179 : BitVec 32 := Scalar.xori v2 c4_i32_787
  let c1_i32_789 : BitVec 32 := 1#32
  let v1180 : BitVec 32 := Scalar.muli v1179 c1_i32_789
  let v1181 : BitVec 32 := Scalar.addi c0_i32_790 v1180
  v1181.toNat
def k0_dev20 (d0 : Dev nD) : Nat :=
  let c0_i32_822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_819 : BitVec 32 := 1#32
  let v1216 : BitVec 32 := Scalar.xori v2 c1_i32_819
  let c1_i32_821 : BitVec 32 := 1#32
  let v1217 : BitVec 32 := Scalar.muli v1216 c1_i32_821
  let v1218 : BitVec 32 := Scalar.addi c0_i32_822 v1217
  v1218.toNat
def k0_dev21 (d0 : Dev nD) : Nat :=
  let c0_i32_854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_851 : BitVec 32 := 3#32
  let v1253 : BitVec 32 := Scalar.xori v2 c3_i32_851
  let c1_i32_853 : BitVec 32 := 1#32
  let v1254 : BitVec 32 := Scalar.muli v1253 c1_i32_853
  let v1255 : BitVec 32 := Scalar.addi c0_i32_854 v1254
  v1255.toNat
def k0_off5 (d0 : Dev nD) (c0_i32_876 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c80_i32_875 : BitVec 32 := 80#32
  let v1277 : BitVec 32 := Scalar.muli v2 c80_i32_875
  let v1278 : BitVec 32 := Scalar.addi c0_i32_876 v1277
  let v1279 : Index := Scalar.indexCast v1278
  let c0_877 : Index := 0#32
  ![v1279.toNat, 0]
def k0_off6 (d0 : Dev nD) (c0_i32_880 : BitVec 32) (c4_i32_878 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1282 : BitVec 32 := Scalar.xori v2 c4_i32_878
  let c80_i32_879 : BitVec 32 := 80#32
  let v1283 : BitVec 32 := Scalar.muli v1282 c80_i32_879
  let v1284 : BitVec 32 := Scalar.addi c0_i32_880 v1283
  let v1285 : Index := Scalar.indexCast v1284
  let c0_881 : Index := 0#32
  ![v1285.toNat, 0]
def k0_off6_at (r : Fin 2) : BitVec 32 × BitVec 32 :=
  if r.val < 1 then
    (0#32, 4#32)
  else
    (640#32, 1#32)
def k0_off7 (d0 : Dev nD) (c0_i32_883 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c80_i32_882 : BitVec 32 := 80#32
  let v1287 : BitVec 32 := Scalar.muli v2 c80_i32_882
  let v1288 : BitVec 32 := Scalar.addi c0_i32_883 v1287
  let c0_i32_889 : BitVec 32 := 0#32
  ![v1288.toNat, 0]
def k0_dev22 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_884 : BitVec 32 := 3#32
  let v1289 : BitVec 32 := Scalar.xori v2 c3_i32_884
  let c1_i32_887 : BitVec 32 := 1#32
  let v1290 : BitVec 32 := Scalar.muli v1289 c1_i32_887
  let v1291 : BitVec 32 := Scalar.addi c0_i32_888 v1290
  v1291.toNat
def k0_off8 (d0 : Dev nD) (c0_i32_893 : BitVec 32) (c4_i32_891 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1298 : BitVec 32 := Scalar.xori v2 c4_i32_891
  let c80_i32_892 : BitVec 32 := 80#32
  let v1299 : BitVec 32 := Scalar.muli v1298 c80_i32_892
  let v1300 : BitVec 32 := Scalar.addi c0_i32_893 v1299
  let c0_i32_899 : BitVec 32 := 0#32
  ![v1300.toNat, 0]
def k0_off8_at (r : Fin 8) : BitVec 32 × BitVec 32 :=
  if r.val < 4 then
    if r.val < 2 then
      if r.val < 1 then
        (0#32, 4#32)
      else
        (640#32, 1#32)
    else
      if r.val < 3 then
        (0#32, 0#32)
      else
        (0#32, 3#32)
  else
    if r.val < 6 then
      if r.val < 5 then
        (0#32, 7#32)
      else
        (640#32, 0#32)
    else
      if r.val < 7 then
        (640#32, 4#32)
      else
        (640#32, 5#32)
def k0_dev23 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_894 : BitVec 32 := 3#32
  let v1301 : BitVec 32 := Scalar.xori v2 c3_i32_894
  let c1_i32_897 : BitVec 32 := 1#32
  let v1302 : BitVec 32 := Scalar.muli v1301 c1_i32_897
  let v1303 : BitVec 32 := Scalar.addi c0_i32_898 v1302
  v1303.toNat
def k0_dev24 (d0 : Dev nD) : Nat :=
  let c0_i32_929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_926 : BitVec 32 := 4#32
  let v1337 : BitVec 32 := Scalar.xori v2 c4_i32_926
  let c1_i32_928 : BitVec 32 := 1#32
  let v1338 : BitVec 32 := Scalar.muli v1337 c1_i32_928
  let v1339 : BitVec 32 := Scalar.addi c0_i32_929 v1338
  v1339.toNat
def k0_dev25 (d0 : Dev nD) : Nat :=
  let c0_i32_938 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_935 : BitVec 32 := 4#32
  let v1349 : BitVec 32 := Scalar.xori v2 c4_i32_935
  let c1_i32_937 : BitVec 32 := 1#32
  let v1350 : BitVec 32 := Scalar.muli v1349 c1_i32_937
  let v1351 : BitVec 32 := Scalar.addi c0_i32_938 v1350
  v1351.toNat
def k0_off9 (d0 : Dev nD) : Fin 2 → Nat :=
  let c1280_i32_958 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_957 : BitVec 32 := 96#32
  let v1373 : BitVec 32 := Scalar.muli v2 c96_i32_957
  let v1374 : BitVec 32 := Scalar.addi c1280_i32_958 v1373
  let v1375 : Index := Scalar.indexCast v1374
  let c0_959 : Index := 0#32
  ![v1375.toNat, 0]
def k0_off10 (d0 : Dev nD) : Fin 2 → Nat :=
  let c1280_i32_962 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_960 : BitVec 32 := 3#32
  let v1378 : BitVec 32 := Scalar.xori v2 c3_i32_960
  let c96_i32_961 : BitVec 32 := 96#32
  let v1379 : BitVec 32 := Scalar.muli v1378 c96_i32_961
  let v1380 : BitVec 32 := Scalar.addi c1280_i32_962 v1379
  let v1381 : Index := Scalar.indexCast v1380
  let c0_963 : Index := 0#32
  ![v1381.toNat, 0]
def k0_off11 (d0 : Dev nD) : Fin 2 → Nat :=
  let c1280_i32_965 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_964 : BitVec 32 := 96#32
  let v1383 : BitVec 32 := Scalar.muli v2 c96_i32_964
  let v1384 : BitVec 32 := Scalar.addi c1280_i32_965 v1383
  let c0_i32_970 : BitVec 32 := 0#32
  ![v1384.toNat, 0]
def k0_dev26 (d0 : Dev nD) : Nat :=
  let c0_i32_969 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_966 : BitVec 32 := 1#32
  let v1385 : BitVec 32 := Scalar.xori v2 c1_i32_966
  let c1_i32_968 : BitVec 32 := 1#32
  let v1386 : BitVec 32 := Scalar.muli v1385 c1_i32_968
  let v1387 : BitVec 32 := Scalar.addi c0_i32_969 v1386
  v1387.toNat
def k0_off12 (d0 : Dev nD) (c3_i32_972 : BitVec 32) : Fin 2 → Nat :=
  let c1280_i32_974 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1394 : BitVec 32 := Scalar.xori v2 c3_i32_972
  let c96_i32_973 : BitVec 32 := 96#32
  let v1395 : BitVec 32 := Scalar.muli v1394 c96_i32_973
  let v1396 : BitVec 32 := Scalar.addi c1280_i32_974 v1395
  let c0_i32_979 : BitVec 32 := 0#32
  ![v1396.toNat, 0]
def k0_dev27 (d0 : Dev nD) : Nat :=
  let c0_i32_978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_975 : BitVec 32 := 1#32
  let v1397 : BitVec 32 := Scalar.xori v2 c1_i32_975
  let c1_i32_977 : BitVec 32 := 1#32
  let v1398 : BitVec 32 := Scalar.muli v1397 c1_i32_977
  let v1399 : BitVec 32 := Scalar.addi c0_i32_978 v1398
  v1399.toNat
def k0_off13 (d0 : Dev nD) (c0_i32_998 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c80_i32_997 : BitVec 32 := 80#32
  let v1421 : BitVec 32 := Scalar.muli v2 c80_i32_997
  let v1422 : BitVec 32 := Scalar.addi c0_i32_998 v1421
  let v1423 : Index := Scalar.indexCast v1422
  let c256_999 : Index := 256#32
  ![v1423.toNat, 256]
def k0_off14 (d0 : Dev nD) (c0_i32_1002 : BitVec 32) (c4_i32_1000 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1426 : BitVec 32 := Scalar.xori v2 c4_i32_1000
  let c80_i32_1001 : BitVec 32 := 80#32
  let v1427 : BitVec 32 := Scalar.muli v1426 c80_i32_1001
  let v1428 : BitVec 32 := Scalar.addi c0_i32_1002 v1427
  let v1429 : Index := Scalar.indexCast v1428
  let c256_1003 : Index := 256#32
  ![v1429.toNat, 256]
def k0_off14_at (r : Fin 2) : BitVec 32 × BitVec 32 :=
  if r.val < 1 then
    (0#32, 4#32)
  else
    (640#32, 1#32)
def k0_off15 (d0 : Dev nD) (c0_i32_1005 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c80_i32_1004 : BitVec 32 := 80#32
  let v1431 : BitVec 32 := Scalar.muli v2 c80_i32_1004
  let v1432 : BitVec 32 := Scalar.addi c0_i32_1005 v1431
  let c256_i32 : BitVec 32 := 256#32
  ![v1432.toNat, 256]
def k0_dev28 (d0 : Dev nD) : Nat :=
  let c0_i32_1009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1006 : BitVec 32 := 3#32
  let v1433 : BitVec 32 := Scalar.xori v2 c3_i32_1006
  let c1_i32_1008 : BitVec 32 := 1#32
  let v1434 : BitVec 32 := Scalar.muli v1433 c1_i32_1008
  let v1435 : BitVec 32 := Scalar.addi c0_i32_1009 v1434
  v1435.toNat
def k0_off16 (d0 : Dev nD) (c0_i32_1013 : BitVec 32) (c4_i32_1011 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1442 : BitVec 32 := Scalar.xori v2 c4_i32_1011
  let c80_i32_1012 : BitVec 32 := 80#32
  let v1443 : BitVec 32 := Scalar.muli v1442 c80_i32_1012
  let v1444 : BitVec 32 := Scalar.addi c0_i32_1013 v1443
  let c256_i32_1018 : BitVec 32 := 256#32
  ![v1444.toNat, 256]
def k0_off16_at (r : Fin 8) : BitVec 32 × BitVec 32 :=
  if r.val < 4 then
    if r.val < 2 then
      if r.val < 1 then
        (0#32, 4#32)
      else
        (640#32, 1#32)
    else
      if r.val < 3 then
        (0#32, 0#32)
      else
        (0#32, 3#32)
  else
    if r.val < 6 then
      if r.val < 5 then
        (0#32, 7#32)
      else
        (640#32, 0#32)
    else
      if r.val < 7 then
        (640#32, 4#32)
      else
        (640#32, 5#32)
def k0_dev29 (d0 : Dev nD) : Nat :=
  let c0_i32_1017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1014 : BitVec 32 := 3#32
  let v1445 : BitVec 32 := Scalar.xori v2 c3_i32_1014
  let c1_i32_1016 : BitVec 32 := 1#32
  let v1446 : BitVec 32 := Scalar.muli v1445 c1_i32_1016
  let v1447 : BitVec 32 := Scalar.addi c0_i32_1017 v1446
  v1447.toNat
def k0_dev30 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1045 : BitVec 32 := 4#32
  let v1481 : BitVec 32 := Scalar.xori v2 c4_i32_1045
  let c1_i32_1047 : BitVec 32 := 1#32
  let v1482 : BitVec 32 := Scalar.muli v1481 c1_i32_1047
  let v1483 : BitVec 32 := Scalar.addi c0_i32_1048 v1482
  v1483.toNat
def k0_dev31 (d0 : Dev nD) : Nat :=
  let c0_i32_1057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1054 : BitVec 32 := 4#32
  let v1493 : BitVec 32 := Scalar.xori v2 c4_i32_1054
  let c1_i32_1056 : BitVec 32 := 1#32
  let v1494 : BitVec 32 := Scalar.muli v1493 c1_i32_1056
  let v1495 : BitVec 32 := Scalar.addi c0_i32_1057 v1494
  v1495.toNat
def k0_off17 (d0 : Dev nD) : Fin 2 → Nat :=
  let c1280_i32_1077 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_1076 : BitVec 32 := 96#32
  let v1517 : BitVec 32 := Scalar.muli v2 c96_i32_1076
  let v1518 : BitVec 32 := Scalar.addi c1280_i32_1077 v1517
  let v1519 : Index := Scalar.indexCast v1518
  let c256_1078 : Index := 256#32
  ![v1519.toNat, 256]
def k0_off18 (d0 : Dev nD) : Fin 2 → Nat :=
  let c1280_i32_1081 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1079 : BitVec 32 := 3#32
  let v1522 : BitVec 32 := Scalar.xori v2 c3_i32_1079
  let c96_i32_1080 : BitVec 32 := 96#32
  let v1523 : BitVec 32 := Scalar.muli v1522 c96_i32_1080
  let v1524 : BitVec 32 := Scalar.addi c1280_i32_1081 v1523
  let v1525 : Index := Scalar.indexCast v1524
  let c256_1082 : Index := 256#32
  ![v1525.toNat, 256]
def k0_off19 (d0 : Dev nD) : Fin 2 → Nat :=
  let c1280_i32_1084 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_1083 : BitVec 32 := 96#32
  let v1527 : BitVec 32 := Scalar.muli v2 c96_i32_1083
  let v1528 : BitVec 32 := Scalar.addi c1280_i32_1084 v1527
  let c256_i32_1089 : BitVec 32 := 256#32
  ![v1528.toNat, 256]
def k0_dev32 (d0 : Dev nD) : Nat :=
  let c0_i32_1088 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1085 : BitVec 32 := 1#32
  let v1529 : BitVec 32 := Scalar.xori v2 c1_i32_1085
  let c1_i32_1087 : BitVec 32 := 1#32
  let v1530 : BitVec 32 := Scalar.muli v1529 c1_i32_1087
  let v1531 : BitVec 32 := Scalar.addi c0_i32_1088 v1530
  v1531.toNat
def k0_off20 (d0 : Dev nD) (c3_i32_1091 : BitVec 32) : Fin 2 → Nat :=
  let c1280_i32_1093 : BitVec 32 := 1280#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1538 : BitVec 32 := Scalar.xori v2 c3_i32_1091
  let c96_i32_1092 : BitVec 32 := 96#32
  let v1539 : BitVec 32 := Scalar.muli v1538 c96_i32_1092
  let v1540 : BitVec 32 := Scalar.addi c1280_i32_1093 v1539
  let c256_i32_1098 : BitVec 32 := 256#32
  ![v1540.toNat, 256]
def k0_dev33 (d0 : Dev nD) : Nat :=
  let c0_i32_1097 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1094 : BitVec 32 := 1#32
  let v1541 : BitVec 32 := Scalar.xori v2 c1_i32_1094
  let c1_i32_1096 : BitVec 32 := 1#32
  let v1542 : BitVec 32 := Scalar.muli v1541 c1_i32_1096
  let v1543 : BitVec 32 := Scalar.addi c0_i32_1097 v1542
  v1543.toNat
def k0_dev34 (d0 : Dev nD) : Nat :=
  let c0_i32_1118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1115 : BitVec 32 := 1#32
  let v1565 : BitVec 32 := Scalar.xori v2 c1_i32_1115
  let c1_i32_1117 : BitVec 32 := 1#32
  let v1566 : BitVec 32 := Scalar.muli v1565 c1_i32_1117
  let v1567 : BitVec 32 := Scalar.addi c0_i32_1118 v1566
  v1567.toNat
def k0_dev35 (d0 : Dev nD) : Nat :=
  let c0_i32_1127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1124 : BitVec 32 := 1#32
  let v1577 : BitVec 32 := Scalar.xori v2 c1_i32_1124
  let c1_i32_1126 : BitVec 32 := 1#32
  let v1578 : BitVec 32 := Scalar.muli v1577 c1_i32_1126
  let v1579 : BitVec 32 := Scalar.addi c0_i32_1127 v1578
  v1579.toNat
def k0_dev36 (d0 : Dev nD) : Nat :=
  let c0_i32_1136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1133 : BitVec 32 := 1#32
  let v1589 : BitVec 32 := Scalar.xori v2 c1_i32_1133
  let c1_i32_1135 : BitVec 32 := 1#32
  let v1590 : BitVec 32 := Scalar.muli v1589 c1_i32_1135
  let v1591 : BitVec 32 := Scalar.addi c0_i32_1136 v1590
  v1591.toNat
def k0_dev37 (d0 : Dev nD) : Nat :=
  let c0_i32_1146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1142 : BitVec 32 := 1#32
  let v1601 : BitVec 32 := Scalar.xori v2 c1_i32_1142
  let c1_i32_1145 : BitVec 32 := 1#32
  let v1602 : BitVec 32 := Scalar.muli v1601 c1_i32_1145
  let v1603 : BitVec 32 := Scalar.addi c0_i32_1146 v1602
  v1603.toNat
def k0_dev38 (d0 : Dev nD) : Nat :=
  let c0_i32_1167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1164 : BitVec 32 := 3#32
  let v1625 : BitVec 32 := Scalar.xori v2 c3_i32_1164
  let c1_i32_1166 : BitVec 32 := 1#32
  let v1626 : BitVec 32 := Scalar.muli v1625 c1_i32_1166
  let v1627 : BitVec 32 := Scalar.addi c0_i32_1167 v1626
  v1627.toNat
def k0_dev39 (d0 : Dev nD) : Nat :=
  let c0_i32_1176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1173 : BitVec 32 := 3#32
  let v1637 : BitVec 32 := Scalar.xori v2 c3_i32_1173
  let c1_i32_1175 : BitVec 32 := 1#32
  let v1638 : BitVec 32 := Scalar.muli v1637 c1_i32_1175
  let v1639 : BitVec 32 := Scalar.addi c0_i32_1176 v1638
  v1639.toNat
def k0_dev40 (d0 : Dev nD) : Nat :=
  let c0_i32_1185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1182 : BitVec 32 := 3#32
  let v1649 : BitVec 32 := Scalar.xori v2 c3_i32_1182
  let c1_i32_1184 : BitVec 32 := 1#32
  let v1650 : BitVec 32 := Scalar.muli v1649 c1_i32_1184
  let v1651 : BitVec 32 := Scalar.addi c0_i32_1185 v1650
  v1651.toNat
def k0_dev41 (d0 : Dev nD) : Nat :=
  let c0_i32_1194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1191 : BitVec 32 := 3#32
  let v1661 : BitVec 32 := Scalar.xori v2 c3_i32_1191
  let c1_i32_1193 : BitVec 32 := 1#32
  let v1662 : BitVec 32 := Scalar.muli v1661 c1_i32_1193
  let v1663 : BitVec 32 := Scalar.addi c0_i32_1194 v1662
  v1663.toNat
def k0_dev42 (d0 : Dev nD) : Nat :=
  let c0_i32_1215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1212 : BitVec 32 := 4#32
  let v1685 : BitVec 32 := Scalar.xori v2 c4_i32_1212
  let c1_i32_1214 : BitVec 32 := 1#32
  let v1686 : BitVec 32 := Scalar.muli v1685 c1_i32_1214
  let v1687 : BitVec 32 := Scalar.addi c0_i32_1215 v1686
  v1687.toNat
def k0_dev43 (d0 : Dev nD) : Nat :=
  let c0_i32_1224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1221 : BitVec 32 := 4#32
  let v1697 : BitVec 32 := Scalar.xori v2 c4_i32_1221
  let c1_i32_1223 : BitVec 32 := 1#32
  let v1698 : BitVec 32 := Scalar.muli v1697 c1_i32_1223
  let v1699 : BitVec 32 := Scalar.addi c0_i32_1224 v1698
  v1699.toNat
def k0_dev44 (d0 : Dev nD) : Nat :=
  let c0_i32_1233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1230 : BitVec 32 := 4#32
  let v1709 : BitVec 32 := Scalar.xori v2 c4_i32_1230
  let c1_i32_1232 : BitVec 32 := 1#32
  let v1710 : BitVec 32 := Scalar.muli v1709 c1_i32_1232
  let v1711 : BitVec 32 := Scalar.addi c0_i32_1233 v1710
  v1711.toNat
def k0_dev45 (d0 : Dev nD) : Nat :=
  let c0_i32_1242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1239 : BitVec 32 := 4#32
  let v1721 : BitVec 32 := Scalar.xori v2 c4_i32_1239
  let c1_i32_1241 : BitVec 32 := 1#32
  let v1722 : BitVec 32 := Scalar.muli v1721 c1_i32_1241
  let v1723 : BitVec 32 := Scalar.addi c0_i32_1242 v1722
  v1723.toNat
def k0_dev46 (d0 : Dev nD) : Nat :=
  let c0_i32_1263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1260 : BitVec 32 := 1#32
  let v1745 : BitVec 32 := Scalar.xori v2 c1_i32_1260
  let c1_i32_1262 : BitVec 32 := 1#32
  let v1746 : BitVec 32 := Scalar.muli v1745 c1_i32_1262
  let v1747 : BitVec 32 := Scalar.addi c0_i32_1263 v1746
  v1747.toNat
def k0_dev47 (d0 : Dev nD) : Nat :=
  let c0_i32_1272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1269 : BitVec 32 := 1#32
  let v1757 : BitVec 32 := Scalar.xori v2 c1_i32_1269
  let c1_i32_1271 : BitVec 32 := 1#32
  let v1758 : BitVec 32 := Scalar.muli v1757 c1_i32_1271
  let v1759 : BitVec 32 := Scalar.addi c0_i32_1272 v1758
  v1759.toNat
def k0_dev48 (d0 : Dev nD) : Nat :=
  let c0_i32_1281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1278 : BitVec 32 := 1#32
  let v1769 : BitVec 32 := Scalar.xori v2 c1_i32_1278
  let c1_i32_1280 : BitVec 32 := 1#32
  let v1770 : BitVec 32 := Scalar.muli v1769 c1_i32_1280
  let v1771 : BitVec 32 := Scalar.addi c0_i32_1281 v1770
  v1771.toNat
def k0_dev49 (d0 : Dev nD) : Nat :=
  let c0_i32_1290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1287 : BitVec 32 := 1#32
  let v1781 : BitVec 32 := Scalar.xori v2 c1_i32_1287
  let c1_i32_1289 : BitVec 32 := 1#32
  let v1782 : BitVec 32 := Scalar.muli v1781 c1_i32_1289
  let v1783 : BitVec 32 := Scalar.addi c0_i32_1290 v1782
  v1783.toNat
def k0_dev50 (d0 : Dev nD) : Nat :=
  let c0_i32_1311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1308 : BitVec 32 := 3#32
  let v1805 : BitVec 32 := Scalar.xori v2 c3_i32_1308
  let c1_i32_1310 : BitVec 32 := 1#32
  let v1806 : BitVec 32 := Scalar.muli v1805 c1_i32_1310
  let v1807 : BitVec 32 := Scalar.addi c0_i32_1311 v1806
  v1807.toNat
def k0_dev51 (d0 : Dev nD) : Nat :=
  let c0_i32_1320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1317 : BitVec 32 := 3#32
  let v1817 : BitVec 32 := Scalar.xori v2 c3_i32_1317
  let c1_i32_1319 : BitVec 32 := 1#32
  let v1818 : BitVec 32 := Scalar.muli v1817 c1_i32_1319
  let v1819 : BitVec 32 := Scalar.addi c0_i32_1320 v1818
  v1819.toNat
def k0_dev52 (d0 : Dev nD) : Nat :=
  let c0_i32_1329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1326 : BitVec 32 := 3#32
  let v1829 : BitVec 32 := Scalar.xori v2 c3_i32_1326
  let c1_i32_1328 : BitVec 32 := 1#32
  let v1830 : BitVec 32 := Scalar.muli v1829 c1_i32_1328
  let v1831 : BitVec 32 := Scalar.addi c0_i32_1329 v1830
  v1831.toNat
def k0_dev53 (d0 : Dev nD) : Nat :=
  let c0_i32_1338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1335 : BitVec 32 := 3#32
  let v1841 : BitVec 32 := Scalar.xori v2 c3_i32_1335
  let c1_i32_1337 : BitVec 32 := 1#32
  let v1842 : BitVec 32 := Scalar.muli v1841 c1_i32_1337
  let v1843 : BitVec 32 := Scalar.addi c0_i32_1338 v1842
  v1843.toNat
def k0_dev54 (d0 : Dev nD) : Nat :=
  let c0_i32_1359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1356 : BitVec 32 := 4#32
  let v1865 : BitVec 32 := Scalar.xori v2 c4_i32_1356
  let c1_i32_1358 : BitVec 32 := 1#32
  let v1866 : BitVec 32 := Scalar.muli v1865 c1_i32_1358
  let v1867 : BitVec 32 := Scalar.addi c0_i32_1359 v1866
  v1867.toNat
def k0_dev55 (d0 : Dev nD) : Nat :=
  let c0_i32_1368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1365 : BitVec 32 := 4#32
  let v1877 : BitVec 32 := Scalar.xori v2 c4_i32_1365
  let c1_i32_1367 : BitVec 32 := 1#32
  let v1878 : BitVec 32 := Scalar.muli v1877 c1_i32_1367
  let v1879 : BitVec 32 := Scalar.addi c0_i32_1368 v1878
  v1879.toNat
def k0_dev56 (d0 : Dev nD) : Nat :=
  let c0_i32_1377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1374 : BitVec 32 := 4#32
  let v1889 : BitVec 32 := Scalar.xori v2 c4_i32_1374
  let c1_i32_1376 : BitVec 32 := 1#32
  let v1890 : BitVec 32 := Scalar.muli v1889 c1_i32_1376
  let v1891 : BitVec 32 := Scalar.addi c0_i32_1377 v1890
  v1891.toNat
def k0_dev57 (d0 : Dev nD) : Nat :=
  let c0_i32_1386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1383 : BitVec 32 := 4#32
  let v1901 : BitVec 32 := Scalar.xori v2 c4_i32_1383
  let c1_i32_1385 : BitVec 32 := 1#32
  let v1902 : BitVec 32 := Scalar.muli v1901 c1_i32_1385
  let v1903 : BitVec 32 := Scalar.addi c0_i32_1386 v1902
  v1903.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S8x2048x512 : Shape := ⟨3, ![8, 2048, 512]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S8x2048x512, .bf16⟩
  | .hbm, ⟨2, _⟩ => ⟨S8x2048x512, .f32⟩
  | .hbm, ⟨3, _⟩ => ⟨S_, .f32⟩
  | .hbm, ⟨4, _⟩ => ⟨S2048x512, .f32⟩
  | .hbm, ⟨5, _⟩ => ⟨S2048x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Prog.lean ====
/-
# The kernel's body as six runs of one algorithm

The 2048 x 512 array is reduced in six parts (two column halves, three row ranges). Each part is reduced by the same
sequence of steps, only the order in which the three dimensions of the cube of devices are crossed, the part's
place and the scratch buffers differ. This module records what differs (`Inst`), the six parts (`inst`), the steps
over a part at the printed offsets and peers, and states that the printed body is those steps (`body_eq`).
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.KernelIdeal.AR

open Cert.KernelIdeal Cert.KernelIdeal.Gen
open Idealize.ShloMosaic Idealize.SL.Sem

variable {F : FTy → Type} [FloatOps F]

/-- Rows in groups of `rc`, 256 columns wide. -/
abbrev Sh (n rc : Nat) : Shape := ⟨2, ![n * rc, 256]⟩

/-- One group of `rc` rows. -/
abbrev Sh1 (rc : Nat) : Shape := ⟨2, ![rc, 256]⟩

/-- `k` groups from group `t` lie among `n` groups. -/
theorem reg_inb {n rc t k : Nat} (h : t + k ≤ n) :
    ∀ a, (![t * rc, 0] : Fin 2 → Nat) a + (![k * rc, 256] : Fin 2 → Nat) a ≤ (Sh n rc).size a := by
  intro a
  have h' : t * rc + k * rc ≤ n * rc := by rw [← Nat.add_mul]; exact Nat.mul_le_mul_right _ h
  fin_cases a
  · exact h'
  · exact Nat.le_refl 256

/-- One group lies among `n` groups. -/
theorem chk_inb {n rc t : Nat} (h : t < n) :
    ∀ a, (![t * rc, 0] : Fin 2 → Nat) a + (![rc, 256] : Fin 2 → Nat) a ≤ (Sh n rc).size a := by
  intro a
  have h' : t * rc + rc ≤ n * rc := by rw [← Nat.succ_mul]; exact Nat.mul_le_mul_right _ h
  fin_cases a
  · exact h'
  · exact Nat.le_refl 256

/-- The rectangle of `k` groups from group `t`. -/
abbrev reg (n rc t k : Nat) (h : t + k ≤ n) : Rect (Sh n rc) :=
  Rect.unit (s := Sh n rc) ![t * rc, 0] ![k * rc, 256] (reg_inb h)

/-- The rectangle of group `t`. -/
abbrev chk (n rc t : Nat) (h : t < n) : Rect (Sh n rc) :=
  Rect.unit (s := Sh n rc) ![t * rc, 0] ![rc, 256] (chk_inb h)

/-- How many groups of rows transfer `s` of a part moves. -/
abbrev nr : Fin 9 → Nat := ![4, 2, 2, 1, 1, 1, 1, 1, 1]

/-- The input block's staging buffer and the result's. -/
abbrev X : Memref sig .tc .vmem S2048x512 .bf16 := Memref.whole cc0_stg0_0
abbrev O : Memref sig .tc .vmem S2048x512 .bf16 := Memref.whole cc0_stg1_0

/-- What differs between the six parts: the number of rows of a group, the scratch buffers, the printed offsets of the
    groups in the input and the result, the printed peers, with the evidence the operations take. -/
structure Inst where
  rc : Nat
  pos : 0 < (Sh1 rc).numel
  snd : Memref sig .tc .vmem (Sh 8 rc) .bf16
  rcv : Memref sig .tc .vmem (Sh 8 rc) .bf16
  acc : Memref sig .tc .vmem (Sh 4 rc) .f32
  whSnd : snd.IsWhole
  whRcv : rcv.IsWhole
  whAcc : acc.IsWhole
  sPacked : ∀ t : Fin 8, (chk 8 rc t t.isLt).PackedRows (EltTy.packing .bf16)
  rWords : (reg 8 rc 0 4 (by decide)).WholeWords (EltTy.packing .bf16) ∧ (reg 8 rc 4 2 (by decide)).WholeWords (EltTy.packing .bf16)
    ∧ (reg 8 rc 6 2 (by decide)).WholeWords (EltTy.packing .bf16)
  /-- where the input's group at the three dimension bits lies -/
  xoff : Dev nD → Fin 2 → Fin 2 → Fin 2 → Fin 2 → Nat
  xinb : ∀ c a b e ax, xoff c a b e ax + (![rc, 256] : Fin 2 → Nat) ax ≤ S2048x512.size ax
  /-- where the two finished groups are stored in the result -/
  st : Dev nD → Fin 2 → Fin 2 → Nat
  stinb : ∀ c k ax, st c k ax + (![rc, 256] : Fin 2 → Nat) ax ≤ S2048x512.size ax
  stPacked : ∀ c k, (Rect.unit (s := S2048x512) (st c k) ![rc, 256] (stinb c k)).PackedRows (EltTy.packing .bf16)
  /-- where the groups of the result that transfers 3 to 8 move lie -/
  sl : Dev nD → Fin 6 → Fin 2 → Nat
  slinb : ∀ c k ax, sl c k ax + (![1 * rc, 256] : Fin 2 → Nat) ax ≤ S2048x512.size ax
  slWords : ∀ c k, (Rect.unit (s := S2048x512) (sl c k) ![1 * rc, 256] (slinb c k)).WholeWords (EltTy.packing .bf16)
  /-- the device transfer `s` goes to -/
  peer : Dev nD → Fin 9 → Dev nD

namespace Inst

variable (I : Inst)

/-- The region of the send buffer, or of the result, that transfer `s` reads. -/
def src (c : Dev nD) : (s : Fin 9) → Memref sig .tc .vmem (Sh (nr s) I.rc) .bf16
  | 0 => I.snd.slice (reg 8 I.rc 0 4 (by decide)) (fun _ => rfl)
  | 1 => I.snd.slice (reg 8 I.rc 4 2 (by decide)) (fun _ => rfl)
  | 2 => I.snd.slice (reg 8 I.rc 6 2 (by decide)) (fun _ => rfl)
  | 3 => O.slice (Rect.unit (s := S2048x512) (I.sl c 0) ![1 * I.rc, 256] (I.slinb c 0)) (fun _ => rfl)
  | 4 => O.slice (Rect.unit (s := S2048x512) (I.sl c 1) ![1 * I.rc, 256] (I.slinb c 1)) (fun _ => rfl)
  | 5 => O.slice (Rect.unit (s := S2048x512) (I.sl c 2) ![1 * I.rc, 256] (I.slinb c 2)) (fun _ => rfl)
  | 6 => O.slice (Rect.unit (s := S2048x512) (I.sl c 3) ![1 * I.rc, 256] (I.slinb c 3)) (fun _ => rfl)
  | 7 => O.slice (Rect.unit (s := S2048x512) (I.sl c 4) ![1 * I.rc, 256] (I.slinb c 4)) (fun _ => rfl)
  | 8 => O.slice (Rect.unit (s := S2048x512) (I.sl c 5) ![1 * I.rc, 256] (I.slinb c 5)) (fun _ => rfl)

/-- The region of the receive buffer, or of the result, that transfer `s` from device `c` writes. -/
def dst (c : Dev nD) : (s : Fin 9) → Memref sig .tc .vmem (Sh (nr s) I.rc) .bf16
  | 0 => I.rcv.slice (reg 8 I.rc 0 4 (by decide)) (fun _ => rfl)
  | 1 => I.rcv.slice (reg 8 I.rc 4 2 (by decide)) (fun _ => rfl)
  | 2 => I.rcv.slice (reg 8 I.rc 6 2 (by decide)) (fun _ => rfl)
  | 3 => O.slice (Rect.unit (s := S2048x512) (I.sl c 0) ![1 * I.rc, 256] (I.slinb c 0)) (fun _ => rfl)
  | 4 => O.slice (Rect.unit (s := S2048x512) (I.sl c 1) ![1 * I.rc, 256] (I.slinb c 1)) (fun _ => rfl)
  | 5 => O.slice (Rect.unit (s := S2048x512) (I.sl c 2) ![1 * I.rc, 256] (I.slinb c 2)) (fun _ => rfl)
  | 6 => O.slice (Rect.unit (s := S2048x512) (I.sl c 3) ![1 * I.rc, 256] (I.slinb c 3)) (fun _ => rfl)
  | 7 => O.slice (Rect.unit (s := S2048x512) (I.sl c 4) ![1 * I.rc, 256] (I.slinb c 4)) (fun _ => rfl)
  | 8 => O.slice (Rect.unit (s := S2048x512) (I.sl c 5) ![1 * I.rc, 256] (I.slinb c 5)) (fun _ => rfl)

/-- A transfer's source is whole words of its buffer, -/
theorem src_words (c : Dev nD) : ∀ s, (I.src c s).view.WordExact
  | 0 => I.whSnd.wordExact_slice rfl _ I.rWords.1
  | 1 => I.whSnd.wordExact_slice rfl _ I.rWords.2.1
  | 2 => I.whSnd.wordExact_slice rfl _ I.rWords.2.2
  | 3 => (Memref.isWhole_whole _).wordExact_slice rfl _ (I.slWords c 0)
  | 4 => (Memref.isWhole_whole _).wordExact_slice rfl _ (I.slWords c 1)
  | 5 => (Memref.isWhole_whole _).wordExact_slice rfl _ (I.slWords c 2)
  | 6 => (Memref.isWhole_whole _).wordExact_slice rfl _ (I.slWords c 3)
  | 7 => (Memref.isWhole_whole _).wordExact_slice rfl _ (I.slWords c 4)
  | 8 => (Memref.isWhole_whole _).wordExact_slice rfl _ (I.slWords c 5)

/-- and so is its destination. -/
theorem dst_words (c : Dev nD) : ∀ s, (I.dst c s).view.WordExact
  | 0 => I.whRcv.wordExact_slice rfl _ I.rWords.1
  | 1 => I.whRcv.wordExact_slice rfl _ I.rWords.2.1
  | 2 => I.whRcv.wordExact_slice rfl _ I.rWords.2.2
  | 3 => (Memref.isWhole_whole _).wordExact_slice rfl _ (I.slWords c 0)
  | 4 => (Memref.isWhole_whole _).wordExact_slice rfl _ (I.slWords c 1)
  | 5 => (Memref.isWhole_whole _).wordExact_slice rfl _ (I.slWords c 2)
  | 6 => (Memref.isWhole_whole _).wordExact_slice rfl _ (I.slWords c 3)
  | 7 => (Memref.isWhole_whole _).wordExact_slice rfl _ (I.slWords c 4)
  | 8 => (Memref.isWhole_whole _).wordExact_slice rfl _ (I.slWords c 5)

end Inst

/-! ## The six parts -/

/-- Part 0: dimensions in the order 1, 2, 3; rows from 0, columns from 0. -/
def inst0 : Inst where
  rc := 80
  pos := by decide
  snd := Memref.whole cc0_scratch0
  rcv := Memref.whole cc0_scratch1
  acc := Memref.whole cc0_scratch2
  whSnd := Memref.isWhole_whole _
  whRcv := Memref.isWhole_whole _
  whAcc := Memref.isWhole_whole _
  sPacked := by decide
  rWords := by decide
  xoff c a b e := k0_off1 c 0#32 (BitVec.ofNat 32 a.val) (BitVec.ofNat 32 b.val) (BitVec.ofNat 32 e.val)
  xinb c a b e := k0_off1_inb c 0 a b e
  st c := ![k0_off5 c 0#32, k0_off6 c 0#32 4#32]
  stinb := by decide +kernel
  stPacked := by decide +kernel
  sl c := ![k0_off7 c 0#32, k0_off8 c 0#32 4#32, k0_off8 c 0#32 0#32, k0_off8 c 0#32 4#32, k0_off8 c 0#32 3#32, k0_off8 c 0#32 7#32]
  slinb := by decide +kernel
  slWords := by decide +kernel
  peer c := ![⟨k0_dev4 c, k0_dev4_lt c⟩, ⟨k0_dev10 c, k0_dev10_lt c⟩, ⟨k0_dev16 c, k0_dev16_lt c⟩, ⟨k0_dev22 c, k0_dev22_lt c⟩,
    ⟨k0_dev23 c, k0_dev23_lt c⟩, ⟨k0_dev34 c, k0_dev34_lt c⟩, ⟨k0_dev35 c, k0_dev35_lt c⟩, ⟨k0_dev36 c, k0_dev36_lt c⟩, ⟨k0_dev37 c, k0_dev37_lt c⟩]

/-- Part 1: dimensions in the order 2, 3, 1; rows from 640, columns from 0. -/
def inst1 : Inst where
  rc := 80
  pos := by decide
  snd := Memref.whole cc0_scratch3
  rcv := Memref.whole cc0_scratch4
  acc := Memref.whole cc0_scratch5
  whSnd := Memref.isWhole_whole _
  whRcv := Memref.isWhole_whole _
  whAcc := Memref.isWhole_whole _
  sPacked := by decide
  rWords := by decide
  xoff c a b e := k0_off1 c 640#32 (BitVec.ofNat 32 e.val) (BitVec.ofNat 32 a.val) (BitVec.ofNat 32 b.val)
  xinb c a b e := k0_off1_inb c 1 e a b
  st c := ![k0_off5 c 640#32, k0_off6 c 640#32 1#32]
  stinb := by decide +kernel
  stPacked := by decide +kernel
  sl c := ![k0_off7 c 640#32, k0_off8 c 640#32 1#32, k0_off8 c 640#32 0#32, k0_off8 c 640#32 1#32, k0_off8 c 640#32 4#32, k0_off8 c 640#32 5#32]
  slinb := by decide +kernel
  slWords := by decide +kernel
  peer c := ![⟨k0_dev5 c, k0_dev5_lt c⟩, ⟨k0_dev11 c, k0_dev11_lt c⟩, ⟨k0_dev17 c, k0_dev17_lt c⟩, ⟨k0_dev24 c, k0_dev24_lt c⟩,
    ⟨k0_dev25 c, k0_dev25_lt c⟩, ⟨k0_dev38 c, k0_dev38_lt c⟩, ⟨k0_dev39 c, k0_dev39_lt c⟩, ⟨k0_dev40 c, k0_dev40_lt c⟩, ⟨k0_dev41 c, k0_dev41_lt c⟩]

/-- Part 2: dimensions in the order 3, 1, 2; rows from 1280, columns from 0. -/
def inst2 : Inst where
  rc := 96
  pos := by decide
  snd := Memref.whole cc0_scratch6
  rcv := Memref.whole cc0_scratch7
  acc := Memref.whole cc0_scratch8
  whSnd := Memref.isWhole_whole _
  whRcv := Memref.isWhole_whole _
  whAcc := Memref.isWhole_whole _
  sPacked := by decide
  rWords := by decide
  xoff c a b e := k0_off2 c (BitVec.ofNat 32 b.val) (BitVec.ofNat 32 e.val) (BitVec.ofNat 32 a.val)
  xinb c a b e := k0_off2_inb c b e a
  st c := ![k0_off9 c, k0_off10 c]
  stinb := by decide +kernel
  stPacked := by decide +kernel
  sl c := ![k0_off11 c, k0_off12 c 3#32, k0_off12 c 0#32, k0_off12 c 3#32, k0_off12 c 1#32, k0_off12 c 2#32]
  slinb := by decide +kernel
  slWords := by decide +kernel
  peer c := ![⟨k0_dev6 c, k0_dev6_lt c⟩, ⟨k0_dev12 c, k0_dev12_lt c⟩, ⟨k0_dev18 c, k0_dev18_lt c⟩, ⟨k0_dev26 c, k0_dev26_lt c⟩,
    ⟨k0_dev27 c, k0_dev27_lt c⟩, ⟨k0_dev42 c, k0_dev42_lt c⟩, ⟨k0_dev43 c, k0_dev43_lt c⟩, ⟨k0_dev44 c, k0_dev44_lt c⟩, ⟨k0_dev45 c, k0_dev45_lt c⟩]

/-- Part 3: as part 0, columns from 256. -/
def inst3 : Inst where
  rc := 80
  pos := by decide
  snd := Memref.whole cc0_scratch9
  rcv := Memref.whole cc0_scratch10
  acc := Memref.whole cc0_scratch11
  whSnd := Memref.isWhole_whole _
  whRcv := Memref.isWhole_whole _
  whAcc := Memref.isWhole_whole _
  sPacked := by decide
  rWords := by decide
  xoff c a b e := k0_off3 c 0#32 (BitVec.ofNat 32 a.val) (BitVec.ofNat 32 b.val) (BitVec.ofNat 32 e.val)
  xinb c a b e := k0_off3_inb c 0 a b e
  st c := ![k0_off13 c 0#32, k0_off14 c 0#32 4#32]
  stinb := by decide +kernel
  stPacked := by decide +kernel
  sl c := ![k0_off15 c 0#32, k0_off16 c 0#32 4#32, k0_off16 c 0#32 0#32, k0_off16 c 0#32 4#32, k0_off16 c 0#32 3#32, k0_off16 c 0#32 7#32]
  slinb := by decide +kernel
  slWords := by decide +kernel
  peer c := ![⟨k0_dev7 c, k0_dev7_lt c⟩, ⟨k0_dev13 c, k0_dev13_lt c⟩, ⟨k0_dev19 c, k0_dev19_lt c⟩, ⟨k0_dev28 c, k0_dev28_lt c⟩,
    ⟨k0_dev29 c, k0_dev29_lt c⟩, ⟨k0_dev46 c, k0_dev46_lt c⟩, ⟨k0_dev47 c, k0_dev47_lt c⟩, ⟨k0_dev48 c, k0_dev48_lt c⟩, ⟨k0_dev49 c, k0_dev49_lt c⟩]

/-- Part 4: as part 1, columns from 256. -/
def inst4 : Inst where
  rc := 80
  pos := by decide
  snd := Memref.whole cc0_scratch12
  rcv := Memref.whole cc0_scratch13
  acc := Memref.whole cc0_scratch14
  whSnd := Memref.isWhole_whole _
  whRcv := Memref.isWhole_whole _
  whAcc := Memref.isWhole_whole _
  sPacked := by decide
  rWords := by decide
  xoff c a b e := k0_off3 c 640#32 (BitVec.ofNat 32 e.val) (BitVec.ofNat 32 a.val) (BitVec.ofNat 32 b.val)
  xinb c a b e := k0_off3_inb c 1 e a b
  st c := ![k0_off13 c 640#32, k0_off14 c 640#32 1#32]
  stinb := by decide +kernel
  stPacked := by decide +kernel
  sl c := ![k0_off15 c 640#32, k0_off16 c 640#32 1#32, k0_off16 c 640#32 0#32, k0_off16 c 640#32 1#32, k0_off16 c 640#32 4#32, k0_off16 c 640#32 5#32]
  slinb := by decide +kernel
  slWords := by decide +kernel
  peer c := ![⟨k0_dev8 c, k0_dev8_lt c⟩, ⟨k0_dev14 c, k0_dev14_lt c⟩, ⟨k0_dev20 c, k0_dev20_lt c⟩, ⟨k0_dev30 c, k0_dev30_lt c⟩,
    ⟨k0_dev31 c, k0_dev31_lt c⟩, ⟨k0_dev50 c, k0_dev50_lt c⟩, ⟨k0_dev51 c, k0_dev51_lt c⟩, ⟨k0_dev52 c, k0_dev52_lt c⟩, ⟨k0_dev53 c, k0_dev53_lt c⟩]

/-- Part 5: as part 2, columns from 256. -/
def inst5 : Inst where
  rc := 96
  pos := by decide
  snd := Memref.whole cc0_scratch15
  rcv := Memref.whole cc0_scratch16
  acc := Memref.whole cc0_scratch17
  whSnd := Memref.isWhole_whole _
  whRcv := Memref.isWhole_whole _
  whAcc := Memref.isWhole_whole _
  sPacked := by decide
  rWords := by decide
  xoff c a b e := k0_off4 c (BitVec.ofNat 32 b.val) (BitVec.ofNat 32 e.val) (BitVec.ofNat 32 a.val)
  xinb c a b e := k0_off4_inb c b e a
  st c := ![k0_off17 c, k0_off18 c]
  stinb := by decide +kernel
  stPacked := by decide +kernel
  sl c := ![k0_off19 c, k0_off20 c 3#32, k0_off20 c 0#32, k0_off20 c 3#32, k0_off20 c 1#32, k0_off20 c 2#32]
  slinb := by decide +kernel
  slWords := by decide +kernel
  peer c := ![⟨k0_dev9 c, k0_dev9_lt c⟩, ⟨k0_dev15 c, k0_dev15_lt c⟩, ⟨k0_dev21 c, k0_dev21_lt c⟩, ⟨k0_dev32 c, k0_dev32_lt c⟩,
    ⟨k0_dev33 c, k0_dev33_lt c⟩, ⟨k0_dev54 c, k0_dev54_lt c⟩, ⟨k0_dev55 c, k0_dev55_lt c⟩, ⟨k0_dev56 c, k0_dev56_lt c⟩, ⟨k0_dev57 c, k0_dev57_lt c⟩]

/-- The six parts. -/
def inst : Fin 6 → Inst
  | 0 => inst0
  | 1 => inst1
  | 2 => inst2
  | 3 => inst3
  | 4 => inst4
  | 5 => inst5

/-! ## The semaphores -/

/-- The send semaphore of transfer `s` of part `i`, -/
def sSem (i : Fin 6) (s : Fin 9) : DmaSem sig := ⟨2 + (9 * i.val + s.val), show _ < 110 by omega⟩

/-- and its receive semaphore. -/
def rSem (i : Fin 6) (s : Fin 9) : DmaSem sig := ⟨56 + (9 * i.val + s.val), show _ < 110 by omega⟩

/-- The barrier semaphore. -/
abbrev bSem : Sem sig := (SemArray.scalar (sig.barrier 0 rfl) : Sems sig S_).sem

/-! ## The steps -/

abbrev PR (F : FTy → Type) := Prog (TpuEff nD τ sig (Elt F) Λ₀ .tc) PUnit

/-- A group of values. -/
abbrev Blk (F : FTy → Type) (rc : Nat) (e : EltTy) : Type := (Sh1 rc).Idx → Elt F e

theorem castSelf (rc : Nat) : (Sh1 rc).ShapeCasts (Sh1 rc) := rfl

/-- The printed cast of a group to its own shape. -/
abbrev cst {rc : Nat} {e : EltTy} (v : Blk F rc e) : Blk F rc e := shapeCast (Sh1 rc) v (castSelf rc)

/-- Run a step at each element of a list, in order. -/
def seq {ι : Type} : List ι → (ι → PR F) → PR F
  | [], _ => pure ⟨⟩
  | a :: l, f => f a >>= fun _ => seq l f

section Steps

variable (i : Fin 6) (c : Dev nD)

/-- Load the input's group at the dimension bits `a b e`. -/
abbrev ldX (I : Inst) (a b e : Fin 2) : Prog (TpuEff nD τ sig (Elt F) Λ₀ .tc) (Blk F I.rc .bf16) :=
  Prog.lift (.load X (Rect.unit (s := S2048x512) (I.xoff c a b e) ![I.rc, 256] (I.xinb c a b e)).toLoadRect (View.loadsAt_vmem I.pos))

/-- Load a group of a scratch buffer. -/
abbrev ld {n rc : Nat} {e : EltTy} (M : Memref sig .tc .vmem (Sh n rc) e) (t : Nat) (h : t < n) (hp : 0 < (Sh1 rc).numel) :
    Prog (TpuEff nD τ sig (Elt F) Λ₀ .tc) (Blk F rc e) :=
  Prog.lift (.load M (chk n rc t h).toLoadRect (View.loadsAt_vmem hp))

/-- Store a group of the send buffer (after the load of what it holds, whose value is not used). -/
def stSnd (I : Inst) (t : Nat) (h : t < 8) (v : Blk F I.rc .bf16) : PR F := do
  let _ ← ld I.snd t h I.pos
  Prog.lift (.store I.snd (chk 8 I.rc t h) v Finset.univ
    (View.stores_vmem I.pos (I.whSnd.storeExact_slice rfl _ (I.sPacked ⟨t, h⟩)) (fun _ => rfl)) (.inl rfl))

/-- Store a group of the accumulator (after the load of what it holds, whose value is not used). -/
def stAcc (I : Inst) (t : Nat) (h : t < 4) (v : Blk F I.rc .f32) : PR F := do
  let _ ← ld I.acc t h I.pos
  Prog.lift (.store I.acc (chk 4 I.rc t h) v Finset.univ (View.stores_vmem_bits_univ I.pos rfl) (.inl rfl))

/-- Store a group of the result (after the load of what it holds, whose value is not used). -/
def stOut (I : Inst) (k : Fin 2) (v : Blk F I.rc .bf16) : PR F := do
  let _ : Blk F I.rc .bf16 ← Prog.lift (.load O (Rect.unit (s := S2048x512) (I.st c k) ![I.rc, 256] (I.stinb c k)).toLoadRect (View.loadsAt_vmem I.pos))
  Prog.lift (.store O (Rect.unit (s := S2048x512) (I.st c k) ![I.rc, 256] (I.stinb c k)) v Finset.univ
    (View.stores_vmem I.pos ((Memref.isWhole_whole _).storeExact_slice rfl _ (I.stPacked c k)) (fun _ => rfl)) (.inl rfl))

/-- Start transfer `s`. -/
def send (s : Fin 9) : PR F :=
  Prog.lift (.enqueueDma ((inst i).src c s) (.remote (Dev.tc ((inst i).peer c s)) ((inst i).dst c s) (.dma (sSem i s))) (.dma (rSem i s))
    ((inst i).src_words c s) ((inst i).dst_words c s) ⟨⟨rfl, Or.inl rfl⟩, trivial⟩)

/-- Wait for what transfer `s` brings, -/
def waitR (s : Fin 9) : PR F :=
  Prog.lift (.waitDma2 (rSem i s) ((inst i).src c s) ((inst i).dst c s) ((inst i).src_words c s) ((inst i).dst_words c s))

/-- and for its own transfer `s` to have left. -/
def waitS (s : Fin 9) : PR F :=
  Prog.lift (.waitDma2 (sSem i s) ((inst i).dst c s) ((inst i).src c s) ((inst i).dst_words c s) ((inst i).src_words c s))

/-- Copy one group of the other half into the send buffer. -/
def copy1 (b e : Fin 2) : PR F := do
  let v ← ldX c (inst i) 1 b e
  stSnd (inst i) (2 * b.val + e.val) (by omega) (cst (cst v))

/-- Copy the other half of the input, the half the first peer reduces, into the send buffer. -/
def copy : PR F := do
  copy1 i c 0 0
  copy1 i c 0 1
  copy1 i c 1 0
  copy1 i c 1 1

/-- The sum of a group of the input and one received, in the wider type. -/
def sum2 {rc : Nat} (x r : Blk F rc .bf16) : Blk F rc .f32 :=
  addf (extf .f32 (cst x) bitsLt_bf16_f32 : FVec F (Sh1 rc) .f32) (extf .f32 r bitsLt_bf16_f32)

/-- The sum of an accumulated group and one received. -/
def acc2 {rc : Nat} (a : Blk F rc .f32) (r : Blk F rc .bf16) : Blk F rc .f32 :=
  addf (a : FVec F (Sh1 rc) .f32) (extf .f32 r bitsLt_bf16_f32)

/-- A group rounded to the narrower type. -/
def rnd {rc : Nat} (a : Blk F rc .f32) : Blk F rc .bf16 := truncf .bf16 (a : FVec F (Sh1 rc) .f32) bitsLt_bf16_f32

/-- Add what the first transfer brought to two groups of the input, for the second transfer to send. -/
def ph2a (t : Fin 2) : PR F := do
  let x ← ldX c (inst i) 0 1 t
  let r ← ld (inst i).rcv (2 + t.val) (by omega) (inst i).pos
  stSnd (inst i) (4 + t.val) (by omega) (cst (rnd (sum2 x r)))

/-- Add what the first transfer brought to the other two groups, for the accumulator. -/
def ph2b (t : Fin 2) : PR F := do
  let x ← ldX c (inst i) 0 0 t
  let r ← ld (inst i).rcv (0 + t.val) (by omega) (inst i).pos
  stAcc (inst i) (0 + t.val) (by omega) (cst (sum2 x r))

/-- After the first transfer. -/
def ph2 : PR F := do
  waitR i c 0
  ph2a i c 0
  ph2a i c 1
  send i c 1
  ph2b i c 0
  ph2b i c 1

/-- Add what the second transfer brought to an accumulated group, keep the sum and put it, rounded, into the send buffer. -/
def ph3a (t : Fin 2) : PR F := do
  let a ← ld (inst i).acc (0 + t.val) (by omega) (inst i).pos
  let r ← ld (inst i).rcv (4 + t.val) (by omega) (inst i).pos
  stAcc (inst i) (2 + t.val) (by omega) (cst (acc2 a r))
  stSnd (inst i) (7 - t.val) (by omega) (cst (rnd (acc2 a r)))

/-- After the second transfer. -/
def ph3 : PR F := do
  waitR i c 1
  ph3a i 0
  ph3a i 1
  send i c 2

/-- After the third transfer: two groups are finished; they are stored and sent on. -/
def ph4 : PR F := do
  waitR i c 2
  let a ← ld (inst i).acc 2 (by decide) (inst i).pos
  let r ← ld (inst i).rcv 6 (by decide) (inst i).pos
  let a' ← ld (inst i).acc 3 (by decide) (inst i).pos
  let r' ← ld (inst i).rcv 7 (by decide) (inst i).pos
  stOut c (inst i) 0 (rnd (acc2 a r))
  stOut c (inst i) 1 (rnd (acc2 a' r'))
  send i c 3
  send i c 4

/-- Two finished groups arrive; four are sent on. -/
def ph5 : PR F := do
  waitR i c 3
  waitR i c 4
  send i c 5
  send i c 6
  send i c 7
  send i c 8

/-- Copy and send. -/
def copySend : PR F := do
  copy i c
  send i c 0

end Steps

abbrev all6 : List (Fin 6) := [0, 1, 2, 3, 4, 5]

/-- The body on device `c`. -/
def bodyAt (c : Dev nD) : PR F := do
  semSignalWord (⟨k0_dev1 c, k0_dev1_lt c⟩ : Dev nD) bSem 1#32
  semSignalWord (⟨k0_dev2 c, k0_dev2_lt c⟩ : Dev nD) bSem 1#32
  semSignalWord (⟨k0_dev3 c, k0_dev3_lt c⟩ : Dev nD) bSem 1#32
  seq [0, 1, 2] fun i => copy i c
  semWaitWord bSem 3#32
  seq [0, 1, 2] fun i => send i c 0
  seq [3, 4, 5] fun i => copySend i c
  seq all6 fun i => ph2 i c
  seq all6 fun i => ph3 i c
  seq all6 fun i => ph4 i c
  seq all6 fun i => ph5 i c
  seq all6 fun i => seq [5, 6, 7, 8] fun s => waitR i c s
  seq all6 fun i => waitS i c 0
  seq all6 fun i => waitS i c 1
  seq all6 fun i => waitS i c 2
  seq all6 fun i => seq [3, 4] fun s => waitS i c s
  seq all6 fun i => seq [5, 6, 7, 8] fun s => waitS i c s

/-- The body. -/
def body : PR F := do
  let c ← Prog.lift .deviceId
  bodyAt c

end Cert.KernelIdeal.AR

end
-- ==== Proof.Geo.lean ====
/-
# The cube of devices and the places of the groups

Each part crosses the three dimensions of the cube in an order of its own. This module names a device's neighbours, the
device each transfer goes to and the place of each group of the result, and states the printed chains in these terms.
-/
module

public import proofs.«01_k».proof.Proof.Prog

@[expose] public section

noncomputable section

namespace Cert.KernelIdeal.AR

open Cert.KernelIdeal Cert.KernelIdeal.Gen
open Idealize.ShloMosaic Idealize.SL.Sem

/-! ## Neighbours -/

set_option backward.proofsInPublic true in
/-- The neighbour of `c` along dimension `g` of the cube. -/
def nbr (g : Fin 3) (c : Dev nD) : Dev nD := ⟨(c.val ^^^ (![1, 3, 4] g)) % 8, Nat.mod_lt _ (by decide)⟩

/-- The dimension a part crosses at its step `d`. -/
def ax (i : Fin 6) (d : Fin 3) : Fin 3 := ⟨(i.val + d.val) % 3, Nat.mod_lt _ (by decide)⟩

/-- The neighbour part `i` uses at step `d`. -/
def stp (i : Fin 6) (d : Fin 3) (c : Dev nD) : Dev nD := nbr (ax i d) c

/-- The step a transfer belongs to. -/
def dimOf : Fin 9 → Fin 3 := ![0, 1, 2, 1, 1, 0, 0, 0, 0]

/-- The device transfer `s` of part `i` goes to, which is also the one that sends its like to `c`. -/
def tgt (i : Fin 6) (s : Fin 9) (c : Dev nD) : Dev nD := stp i (dimOf s) c

/-- The cube's direction of a transfer. -/
def dirOf (i : Fin 6) (s : Fin 9) : Fin 3 := ax i (dimOf s)

theorem nbr_nbr (g : Fin 3) (c : Dev nD) : nbr g (nbr g c) = c := by revert g c; decide
theorem tgt_tgt (i : Fin 6) (s : Fin 9) (c : Dev nD) : tgt i s (tgt i s c) = c := nbr_nbr _ _
theorem tgt_eq (i : Fin 6) (s : Fin 9) (c : Dev nD) : tgt i s c = nbr (dirOf i s) c := rfl

theorem dev1_eq (c : Dev nD) : (⟨k0_dev1 c, k0_dev1_lt c⟩ : Dev nD) = nbr 0 c := by revert c; decide +kernel
theorem dev2_eq (c : Dev nD) : (⟨k0_dev2 c, k0_dev2_lt c⟩ : Dev nD) = nbr 1 c := by revert c; decide +kernel
theorem dev3_eq (c : Dev nD) : (⟨k0_dev3 c, k0_dev3_lt c⟩ : Dev nD) = nbr 2 c := by revert c; decide +kernel

/-- The printed peer of a transfer. -/
theorem peer_eq (i : Fin 6) (c : Dev nD) (s : Fin 9) : (inst i).peer c s = tgt i s c := by revert i c s; decide +kernel

/-! ## Places -/

/-- The first row and the first column of a part, and the rows of its groups. -/
def base : Fin 6 → Nat := ![0, 640, 1280, 0, 640, 1280]
def col : Fin 6 → Nat := ![0, 0, 0, 256, 256, 256]

/-- Where group `k` of part `i` starts. -/
def org (i : Fin 6) (k : Fin 8) : Fin 2 → Nat := ![base i + k.val * (inst i).rc, col i]

/-- The group at dimension bits `a b e` seen from `c`. -/
def grp (i : Fin 6) (c : Dev nD) (a b e : Fin 2) : Fin 8 :=
  (if a = 1 then stp i 0 else id) ((if b = 1 then stp i 1 else id) ((if e = 1 then stp i 2 else id) c))

/-- The groups that transfers 3 to 8 from `c` move. -/
def kix (i : Fin 6) (c : Dev nD) : Fin 6 → Fin 8 :=
  ![grp i c 0 0 0, grp i c 0 0 1, grp i c 0 0 0, grp i c 0 0 1, grp i c 0 1 0, grp i c 0 1 1]

theorem xoff_eq (i : Fin 6) (c : Dev nD) (a b e : Fin 2) : (inst i).xoff c a b e = org i (grp i c a b e) := by
  revert i c a b e; decide +kernel
theorem st_eq (i : Fin 6) (c : Dev nD) (k : Fin 2) : (inst i).st c k = org i (grp i c 0 0 k) := by
  revert i c k; decide +kernel
theorem sl_eq (i : Fin 6) (c : Dev nD) (k : Fin 6) : (inst i).sl c k = org i (kix i c k) := by
  revert i c k; decide +kernel

theorem org_inb (i : Fin 6) (k : Fin 8) : ∀ a, org i k a + (![1 * (inst i).rc, 256] : Fin 2 → Nat) a ≤ S2048x512.size a := by
  revert i k; decide +kernel

/-- Group `k` of part `i` of the result. -/
def oM (i : Fin 6) (k : Fin 8) : Memref sig .tc .vmem (Sh 1 (inst i).rc) .bf16 :=
  O.slice (Rect.unit (s := S2048x512) (org i k) ![1 * (inst i).rc, 256] (org_inb i k)) (fun _ => rfl)

/-- A region of the result is the group at its place. -/
theorem slice_eq_oM (i : Fin 6) (k : Fin 8) (off : Fin 2 → Nat)
    (inb : ∀ a, off a + (![1 * (inst i).rc, 256] : Fin 2 → Nat) a ≤ S2048x512.size a) (h : off = org i k) :
    O.slice (Rect.unit (s := S2048x512) off ![1 * (inst i).rc, 256] inb) (fun _ => rfl) = oM i k := by
  subst h; rfl

section Transfers

variable (i : Fin 6) (c : Dev nD)

theorem src3 : (inst i).src c 3 = oM i (grp i c 0 0 0) := slice_eq_oM i _ _ ((inst i).slinb c 0) (sl_eq i c 0)
theorem src4 : (inst i).src c 4 = oM i (grp i c 0 0 1) := slice_eq_oM i _ _ ((inst i).slinb c 1) (sl_eq i c 1)
theorem src5 : (inst i).src c 5 = oM i (grp i c 0 0 0) := slice_eq_oM i _ _ ((inst i).slinb c 2) (sl_eq i c 2)
theorem src6 : (inst i).src c 6 = oM i (grp i c 0 0 1) := slice_eq_oM i _ _ ((inst i).slinb c 3) (sl_eq i c 3)
theorem src7 : (inst i).src c 7 = oM i (grp i c 0 1 0) := slice_eq_oM i _ _ ((inst i).slinb c 4) (sl_eq i c 4)
theorem src8 : (inst i).src c 8 = oM i (grp i c 0 1 1) := slice_eq_oM i _ _ ((inst i).slinb c 5) (sl_eq i c 5)

/-- Transfers 3 to 8 write at the place they read. -/
theorem dst3 : (inst i).dst c 3 = oM i (grp i c 0 0 0) := src3 i c
theorem dst4 : (inst i).dst c 4 = oM i (grp i c 0 0 1) := src4 i c
theorem dst5 : (inst i).dst c 5 = oM i (grp i c 0 0 0) := src5 i c
theorem dst6 : (inst i).dst c 6 = oM i (grp i c 0 0 1) := src6 i c
theorem dst7 : (inst i).dst c 7 = oM i (grp i c 0 1 0) := src7 i c
theorem dst8 : (inst i).dst c 8 = oM i (grp i c 0 1 1) := src8 i c

/-- What the transfers to `c` write, seen from `c`. -/
theorem grp_tgt3 : grp i (tgt i 3 c) 0 0 0 = grp i c 0 1 0 := by revert i c; decide
theorem grp_tgt4 : grp i (tgt i 4 c) 0 0 1 = grp i c 0 1 1 := by revert i c; decide
theorem grp_tgt5 : grp i (tgt i 5 c) 0 0 0 = grp i c 1 0 0 := by revert i c; decide
theorem grp_tgt6 : grp i (tgt i 6 c) 0 0 1 = grp i c 1 0 1 := by revert i c; decide
theorem grp_tgt7 : grp i (tgt i 7 c) 0 1 0 = grp i c 1 1 0 := by revert i c; decide
theorem grp_tgt8 : grp i (tgt i 8 c) 0 1 1 = grp i c 1 1 1 := by revert i c; decide

/-- Each group is at one setting of the bits. -/
theorem grp_inj : Function.Injective fun p : Fin 2 × Fin 2 × Fin 2 => grp i c p.1 p.2.1 p.2.2 := by
  revert i c; unfold Function.Injective; decide +kernel

end Transfers

end Cert.KernelIdeal.AR

end
-- ==== Proof.Mem.lean ====
/-
# What a region of groups holds

A region is `k` groups of rows of a buffer. This module says what reading a group of a region gives after a group has
been written in the buffer, and after a whole region has been copied into another.
-/
module

public import proofs.«01_k».proof.Proof.Geo

@[expose] public section

noncomputable section

namespace Cert.KernelIdeal.AR

open Cert.KernelIdeal Cert.KernelIdeal.Gen
open Idealize.ShloMosaic Idealize.SL.Sem

variable {F : FTy → Type} [FloatOps F]

/-- Group `t` of a region of `n` groups. -/
abbrev rdC {n rc : Nat} {e : EltTy} (v : View sig .tc .vmem (Sh n rc) e) (t : Nat) (h : t < n) (f : v.ty.Contents (Elt F)) :
    Blk F rc e := (v.slice (chk n rc t h)).read (Elt F) f

/-- The groups in `P` are the given ones. -/
def HoldsOn {n rc : Nat} {e : EltTy} (v : View sig .tc .vmem (Sh n rc) e) (P : ℕ → Prop) (vals : ℕ → Blk F rc e)
    (f : v.ty.Contents (Elt F)) : Prop := ∀ t (h : t < n), P t → rdC v t h f = vals t

section Sub

variable {sz : Fin 2 → Nat} {e : EltTy} (v : View sig .tc .vmem ⟨2, sz⟩ e) {k rc : Nat} {off off' : Fin 2 → Nat}
  (inb : ∀ a, off a + (![k * rc, 256] : Fin 2 → Nat) a ≤ sz a) (inb' : ∀ a, off' a + (![rc, 256] : Fin 2 → Nat) a ≤ sz a)

/-- The rectangle of `k` groups at an offset, and the one of a single group. -/
abbrev rcs : Rect (⟨2, sz⟩ : Shape) := Rect.unit (s := ⟨2, sz⟩) off ![k * rc, 256] inb
abbrev rc1 : Rect (⟨2, sz⟩ : Shape) := Rect.unit (s := ⟨2, sz⟩) off' ![rc, 256] inb'

variable {t : Nat} (ht : t < k) (hoff : ∀ a, off' a = off a + (![t * rc, 0] : Fin 2 → Nat) a)

include hoff in
/-- A group of a region lies where the group of the buffer at the region's offset and its own lies. -/
theorem emb_sub (x : (Sh1 rc).Idx) :
    ((v.slice (rcs inb)).slice (chk k rc t ht)).emb x = (v.slice (rc1 inb')).emb x := by
  show v.emb ((rcs inb).emb ((chk k rc t ht).emb x)) = v.emb ((rc1 inb').emb x)
  congr 1
  funext a
  apply Fin.ext
  show off a + 1 * ((![t * rc, 0] : Fin 2 → Nat) a + 1 * (x a).val) = off' a + 1 * (x a).val
  rw [hoff a]; omega

include hoff in
theorem read_sub (f : v.ty.Contents (Elt F)) :
    rdC (F := F) (v.slice (rcs inb)) t ht f = (v.slice (rc1 inb')).read (Elt F) f := by
  funext x
  show cast _ (f (((v.slice (rcs inb)).slice (chk k rc t ht)).emb x)) = cast _ (f ((v.slice (rc1 inb')).emb x))
  rw [emb_sub v inb inb' ht hoff x]

include hoff ht in
theorem sub_set : (v.slice (rc1 inb')).set ⊆ (v.slice (rcs inb)).set := by
  intro y hy
  obtain ⟨x, -, rfl⟩ := Finset.mem_map.mp hy
  rw [← emb_sub v inb inb' ht hoff x]
  exact View.emb_mem_set (v.slice (rcs inb)) _

include hoff in
/-- Reading the group written, -/
theorem read_write_same (f : v.ty.Contents (Elt F)) (w : Blk F rc e) :
    rdC (F := F) (v.slice (rcs inb)) t ht ((v.slice (rc1 inb')).write (Elt F) f w Finset.univ) = w := by
  rw [read_sub v inb inb' ht hoff]
  funext x
  rw [View.read_apply, View.write_emb_of_mem _ _ (Finset.mem_univ x), cast_cast, cast_eq]

include hoff in
/-- and another one. -/
theorem read_write_other (f : v.ty.Contents (Elt F)) (w : Blk F rc e) {t' : Nat} (ht' : t' < k) (hne : t' ≠ t) :
    rdC (F := F) (v.slice (rcs inb)) t' ht' ((v.slice (rc1 inb')).write (Elt F) f w Finset.univ)
      = rdC (F := F) (v.slice (rcs inb)) t' ht' f := by
  funext x
  show cast _ ((v.slice (rc1 inb')).write (Elt F) f w Finset.univ (v.emb ((rcs inb).emb ((chk k rc t' ht').emb x)))) = cast _ (f _)
  rw [View.write_of_not_mem]
  · rfl
  intro hm
  obtain ⟨y, -, hy⟩ := Finset.mem_map.mp hm
  have h1 : (rc1 inb').emb y = (rcs inb).emb ((chk k rc t' ht').emb x) := v.emb.injective hy
  have h2 : ((rc1 inb').emb y 0).val = ((rcs inb).emb ((chk k rc t' ht').emb x) 0).val := by rw [h1]
  have h3 : off' 0 + 1 * (y 0).val = off 0 + 1 * (t' * rc + 1 * (x 0).val) := h2
  have hy0 : (y 0).val < rc := (y 0).isLt
  have hx0 : (x 0).val < rc := (x 0).isLt
  have h4 : off' 0 = off 0 + t * rc := hoff 0
  rcases Nat.lt_or_gt_of_ne hne with h | h
  · have : (t' + 1) * rc ≤ t * rc := Nat.mul_le_mul_right _ h
    rw [Nat.succ_mul] at this; omega
  · have : (t + 1) * rc ≤ t' * rc := Nat.mul_le_mul_right _ h
    rw [Nat.succ_mul] at this; omega

include hoff in
/-- Writing a group adds it to the groups known. -/
theorem HoldsOn.write {P : ℕ → Prop} {vals : ℕ → Blk F rc e} {f : v.ty.Contents (Elt F)}
    (h : HoldsOn (F := F) (v.slice (rcs inb)) P vals f) (w : Blk F rc e) (hw : w = vals t) :
    HoldsOn (F := F) (v.slice (rcs inb)) (fun x => x = t ∨ P x) vals ((v.slice (rc1 inb')).write (Elt F) f w Finset.univ) := by
  intro t' ht' hP
  by_cases he : t' = t
  · subst he
    rw [read_write_same v inb inb' ht' hoff, hw]
  · rw [read_write_other v inb inb' hoff f w ht' he]
    exact h t' ht' (hP.resolve_left he)

end Sub

/-- A region copied whole holds what its source holds. -/
theorem HoldsOn.copy {n rc : Nat} {e : EltTy} {v w : View sig .tc .vmem (Sh n rc) e} {vals : ℕ → Blk F rc e}
    {fs : v.ty.Contents (Elt F)} (h : HoldsOn (F := F) v (fun _ => True) vals fs) (fd : w.ty.Contents (Elt F)) :
    HoldsOn (F := F) w (fun _ => True) vals (w.write (Elt F) fd (v.read (Elt F) fs) Finset.univ) := by
  intro t ht _
  rw [← h t ht trivial]
  funext x
  show cast _ (w.write (Elt F) fd (v.read (Elt F) fs) Finset.univ (w.emb ((chk n rc t ht).emb x))) = v.read (Elt F) fs ((chk n rc t ht).emb x)
  rw [View.write_emb_of_mem _ _ (Finset.mem_univ _), cast_cast, cast_eq]

end Cert.KernelIdeal.AR

end
-- ==== Proof.Proto.lean ====
/-
# The protocol

What each transfer carries (`sent`), what each semaphore's wait brings (`sched`), what a device owes and the order of the
semaphores that makes every wait answerable.
-/
module

public import proofs.«01_k».proof.Proof.Mem
public import proofs.«01_k».proof.Proof.Gen.KernelIdeal.Launch

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Values -/

section Values

-- the input blocks the devices start with
variable (xs : Dev nD → (X).view.ty.Contents (Elt F))

/-- A group of the input. -/
def xv (c : Dev nD) (i : Fin 6) (a b e : Fin 2) : Blk F (inst i).rc .bf16 :=
  (X.access (Rect.unit (s := S2048x512) ((inst i).xoff c a b e) ![(inst i).rc, 256] ((inst i).xinb c a b e))).read (Elt F) (xs c)

/-- A number's last bit. -/
def bit (t : ℕ) : Fin 2 := ⟨t % 2, Nat.mod_lt _ (by decide)⟩

/-- What the first transfer carries: the other half of the input. -/
def v0 (c : Dev nD) (i : Fin 6) (t : ℕ) : Blk F (inst i).rc .bf16 := cst (cst (xv xs c i 1 (bit (t / 2)) (bit t)))
/-- What the second carries: sums of two. -/
def v1 (c : Dev nD) (i : Fin 6) (t : ℕ) : Blk F (inst i).rc .bf16 :=
  cst (rnd (sum2 (xv xs c i 0 1 (bit t)) (v0 xs (tgt i 0 c) i (2 + t))))
/-- The accumulator: sums of two, -/
def a2 (c : Dev nD) (i : Fin 6) (t : ℕ) : Blk F (inst i).rc .f32 := cst (sum2 (xv xs c i 0 0 (bit t)) (v0 xs (tgt i 0 c) i (0 + t)))
/-- sums of four, -/
def a4 (c : Dev nD) (i : Fin 6) (t : ℕ) : Blk F (inst i).rc .f32 := acc2 (a2 xs c i t) (v1 xs (tgt i 1 c) i t)
/-- and both as they are stored. -/
def aAll (c : Dev nD) (i : Fin 6) (t : ℕ) : Blk F (inst i).rc .f32 := if t < 2 then a2 xs c i t else cst (a4 xs c i (t - 2))
/-- What the third transfer carries: sums of four, in the other order. -/
def v2 (c : Dev nD) (i : Fin 6) (t : ℕ) : Blk F (inst i).rc .bf16 := cst (rnd (a4 xs c i (1 - t)))
/-- A finished group: the sum of eight. -/
def fin8 (c : Dev nD) (i : Fin 6) (t : ℕ) : Blk F (inst i).rc .bf16 := rnd (acc2 (aAll xs c i (2 + t)) (v2 xs (tgt i 2 c) i t))

/-- What transfer `s` carries. -/
def sent (c : Dev nD) (i : Fin 6) : Fin 9 → ℕ → Blk F (inst i).rc .bf16
  | 0 => v0 xs c i
  | 1 => v1 xs c i
  | 2 => v2 xs c i
  | 3 => fun _ => fin8 xs c i 0
  | 4 => fun _ => fin8 xs c i 1
  | 5 => fun _ => fin8 xs c i 0
  | 6 => fun _ => fin8 xs c i 1
  | 7 => fun _ => fin8 xs (tgt i 3 c) i 0
  | 8 => fun _ => fin8 xs (tgt i 4 c) i 1

end Values

/-! ## Regions held -/

/-- A region at some contents. -/
def anyOwn {n rc : ℕ} {e : EltTy} (c : Dev nD) (M : Memref sig .tc .vmem (Sh n rc) e) : sProp 𝕄 :=
  iprop(∃ f, M.view.loc (c : Thread nD τ) ↦[M.view.set]{fullShare} f)

/-- A region whose groups in `P` are known. -/
def heldOn {n rc : ℕ} {e : EltTy} (c : Dev nD) (M : Memref sig .tc .vmem (Sh n rc) e) (q : PosShare TreeShare) (P : ℕ → Prop)
    (vals : ℕ → Blk F rc e) : sProp 𝕄 :=
  iprop(∃ f, ⌜HoldsOn (F := F) M.view P vals f⌝ ∗ M.view.loc (c : Thread nD τ) ↦[M.view.set]{q} f)

/-- A region known whole. -/
abbrev held {n rc : ℕ} {e : EltTy} (c : Dev nD) (M : Memref sig .tc .vmem (Sh n rc) e) (q : PosShare TreeShare)
    (vals : ℕ → Blk F rc e) : sProp 𝕄 := heldOn c M q (fun _ => True) vals

instance anyOwn_storable {n rc : ℕ} {e : EltTy} (c : Dev nD) (M : Memref sig .tc .vmem (Sh n rc) e) :
    BI.Storable (upEmb : UEmb _ 𝕄) (anyOwn (F := F) c M) := by unfold anyOwn; infer_instance
instance heldOn_storable {n rc : ℕ} {e : EltTy} (c : Dev nD) (M : Memref sig .tc .vmem (Sh n rc) e) (q : PosShare TreeShare)
    (P : ℕ → Prop) (vals : ℕ → Blk F rc e) : BI.Storable (upEmb : UEmb _ 𝕄) (heldOn (F := F) c M q P vals) := by
  unfold heldOn; infer_instance

omit [FloatOps F] in
theorem heldOn_any {n rc : ℕ} {e : EltTy} (c : Dev nD) (M : Memref sig .tc .vmem (Sh n rc) e) (P : ℕ → Prop)
    (vals : ℕ → Blk F rc e) : heldOn (F := F) c M fullShare P vals ⊢ anyOwn c M := by
  unfold heldOn anyOwn
  iintro ⟨%f, -, H⟩
  iexists f; iexact H

omit [FloatOps F] in
theorem any_heldOn {n rc : ℕ} {e : EltTy} (c : Dev nD) (M : Memref sig .tc .vmem (Sh n rc) e)
    (vals : ℕ → Blk F rc e) : anyOwn (F := F) c M ⊢ heldOn c M fullShare (fun _ => False) vals := by
  unfold heldOn anyOwn
  iintro ⟨%f, H⟩
  iexists f
  isplitr
  · ipureintro; intro t h hP; exact hP.elim
  · iexact H

omit [FloatOps F] in
/-- Knowing as much of other values. -/
theorem heldOn_mono {n rc : ℕ} {e : EltTy} (c : Dev nD) (M : Memref sig .tc .vmem (Sh n rc) e) (q : PosShare TreeShare) {P P' : ℕ → Prop}
    {vals vals' : ℕ → Blk F rc e} (h : ∀ t, t < n → P' t → P t ∧ vals t = vals' t) : heldOn (F := F) c M q P vals ⊢ heldOn c M q P' vals' := by
  unfold heldOn
  iintro ⟨%f, %hf, H⟩
  iexists f
  isplitr
  · ipureintro; intro t ht hP; rw [hf t ht (h t ht hP).1]; exact (h t ht hP).2
  · iexact H

omit [FloatOps F] in
/-- A region held is held in two halves, -/
theorem heldOn_halve {n rc : ℕ} {e : EltTy} (c : Dev nD) (M : Memref sig .tc .vmem (Sh n rc) e) (P : ℕ → Prop)
    (vals : ℕ → Blk F rc e) : heldOn (F := F) c M fullShare P vals ⊢ iprop(heldOn c M fullShare.left P vals ∗ heldOn c M fullShare.right P vals) := by
  unfold heldOn
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2

omit [FloatOps F] in
/-- What a region reads is what it holds. -/
theorem emb_of_mem_set {n rc : ℕ} {e : EltTy} (v : View sig .tc .vmem (Sh n rc) e) (hrc : 0 < rc) {y : v.ty.Idx} (hy : y ∈ v.set) :
    ∃ t, ∃ h : t < n, ∃ x, (v.slice (chk n rc t h)).emb x = y := by
  obtain ⟨z, -, rfl⟩ := Finset.mem_map.mp hy
  have h0 : (z 0).val < n * rc := (z 0).isLt
  have h1 : (z 1).val < 256 := (z 1).isLt
  have ht : (z 0).val / rc < n := Nat.div_lt_of_lt_mul (by rw [Nat.mul_comm]; exact h0)
  refine ⟨(z 0).val / rc, ht, fun a => match a with
    | ⟨0, _⟩ => ⟨(z 0).val % rc, Nat.mod_lt _ hrc⟩
    | ⟨1, _⟩ => ⟨(z 1).val, h1⟩, ?_⟩
  show v.emb ((chk n rc _ ht).emb _) = v.emb z
  congr 1
  funext a
  apply Fin.ext
  match a with
  | ⟨0, _⟩ =>
    show (z 0).val / rc * rc + 1 * ((z 0).val % rc) = (z 0).val
    rw [Nat.one_mul, Nat.mul_comm]; exact Nat.div_add_mod _ _
  | ⟨1, _⟩ =>
    show 0 + 1 * (z 1).val = (z 1).val
    omega

theorem rc_pos (i : Fin 6) : 0 < (inst i).rc := by revert i; decide

omit [FloatOps F] in
/-- and two halves that hold the same make it whole. -/
theorem held_join {n rc : ℕ} {e : EltTy} (hrc : 0 < rc) (c : Dev nD) (M : Memref sig .tc .vmem (Sh n rc) e)
    (vals : ℕ → Blk F rc e) : iprop(held c M fullShare.left vals ∗ held c M fullShare.right vals) ⊢ held (F := F) c M fullShare vals := by
  unfold held heldOn
  iintro ⟨⟨%f, %hf, H1⟩, ⟨%g, %hg, H2⟩⟩
  iexists f
  isplitr
  · ipureintro; exact hf
  · have he : ∀ y ∈ M.view.set, g y = f y := by
      intro y hy
      obtain ⟨t, ht, x, rfl⟩ := emb_of_mem_set M.view hrc hy
      have h : rdC M.view t ht g x = rdC M.view t ht f x := by rw [hf t ht trivial, hg t ht trivial]
      exact (cast_bijective _).1 h
    ihave H2' := (Entails.of_eq (pointsTo_congr he)) $$ H2
    iapply (pointsTo_share (PosShare.mem_left_op_right fullShare)).2
    isplitl [H1]; · iexact H1
    iexact H2'

/-! ## Cells -/

/-- A semaphore of the protocol: the barrier, or a transfer's send (`false`) or receive (`true`) semaphore. -/
abbrev Kd : Type := Option (Bool × Fin 6 × Fin 9)

def csem : Kd → SemLoc sig
  | none => .reg bSem
  | some (false, i, s) => .dma (sSem i s)
  | some (true, i, s) => .dma (rSem i s)

/-- Which semaphore of the protocol one is. -/
def kindOf : SemLoc sig → Option Kd
  | .reg r => if r = bSem then some none else none
  | .dma q =>
    if h : 2 ≤ q.val ∧ q.val < 56 then some (some (false, ⟨(q.val - 2) / 9, by omega⟩, ⟨(q.val - 2) % 9, by omega⟩))
    else if h : 56 ≤ q.val ∧ q.val < 110 then some (some (true, ⟨(q.val - 56) / 9, by omega⟩, ⟨(q.val - 56) % 9, by omega⟩))
    else none

theorem kindOf_csem (k : Kd) : kindOf (csem k) = some k := by revert k; decide

theorem csem_injective : Function.Injective csem := fun k k' h => by
  have := congrArg kindOf h
  rw [kindOf_csem, kindOf_csem] at this
  exact Option.some.inj this

abbrev kcell (p : Dev nD × Kd) : GSem nD τ sig := ((p.1 : Thread nD τ), csem p.2)
abbrev bCell (c : Dev nD) : GSem nD τ sig := ((c : Thread nD τ), csem none)
abbrev sCell (c : Dev nD) (i : Fin 6) (s : Fin 9) : GSem nD τ sig := ((c : Thread nD τ), csem (some (false, i, s)))
abbrev rCell (c : Dev nD) (i : Fin 6) (s : Fin 9) : GSem nD τ sig := ((c : Thread nD τ), csem (some (true, i, s)))

theorem kcell_injective : Function.Injective (kcell : Dev nD × Kd → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The units a transfer's semaphores count. -/
def amt (i : Fin 6) (s : Fin 9) : ℕ := ((inst i).dst 0 s).view.dmaCredit

theorem dst_credit (i : Fin 6) (c : Dev nD) (s : Fin 9) : ((inst i).dst c s).view.dmaCredit = amt i s := by
  unfold amt; fin_cases i <;> fin_cases s <;> rfl
theorem src_credit (i : Fin 6) (c : Dev nD) (s : Fin 9) : ((inst i).src c s).view.dmaCredit = amt i s := by
  unfold amt; fin_cases i <;> fin_cases s <;> rfl
theorem amt_pos (i : Fin 6) (s : Fin 9) : 0 < amt i s := View.dmaCredit_pos _ (by revert i s; decide +kernel)

/-! ## The schedule -/

/-- The share of its source a transfer borrows. -/
def shr : Fin 9 → PosShare TreeShare
  | 3 => fullShare.left
  | 4 => fullShare.left
  | 5 => fullShare.right
  | 6 => fullShare.right
  | _ => fullShare

section Sched

variable (xs : Dev nD → (X).view.ty.Contents (Elt F))

/-- What the neighbour's signal along dimension `d` hands `c`: the regions there that transfers from `c` write. -/
def barPay (c : Dev nD) (d : Fin 3) : sProp 𝕄 :=
  bigSep (Finset.univ.filter fun p : Fin 6 × Fin 9 => dirOf p.1 p.2 = d) fun p => anyOwn (tgt p.1 p.2 c) ((inst p.1).dst c p.2)

/-- What a transfer brings `c`. -/
def recvPay (c : Dev nD) (i : Fin 6) (s : Fin 9) : sProp 𝕄 :=
  held c ((inst i).dst (tgt i s c) s) fullShare (sent xs (tgt i s c) i s)

/-- What comes back to `c` once a transfer has left. -/
def sendPay (c : Dev nD) (i : Fin 6) (s : Fin 9) : sProp 𝕄 := held c ((inst i).src c s) (shr s) (sent xs c i s)

def payOf (c : Dev nD) (d : Fin 3) : Option Kd → sProp 𝕄
  | none => iprop(emp)
  | some none => barPay c d
  | some (some (false, i, s)) => sendPay xs c i s
  | some (some (true, i, s)) => recvPay xs c i s

instance payOf_storable (c : Dev nD) (d : Fin 3) (k : Option Kd) : BI.Storable (upEmb : UEmb _ 𝕄) (payOf (F := F) xs c d k) := by
  rcases k with _ | _ | ⟨_ | _, i, s⟩
  · unfold payOf; infer_instance
  · unfold payOf barPay; infer_instance
  · unfold payOf sendPay; infer_instance
  · unfold payOf recvPay; infer_instance

def amtOf : Option Kd → ℕ
  | some (some (_, i, s)) => amt i s
  | _ => 1

def dutOf : Option Kd → Finset (Fin 3)
  | none => ∅
  | some none => Finset.univ
  | some (some _) => {0}

/-- One round: the barrier's three signals, and each transfer's one landing at either end. -/
def sched : Rounds.Schedule (GSem nD τ sig) (Fin 3) 𝕄 where
  duties g r := if r = 0 ∧ g.1.2 = .tc then dutOf (kindOf g.2) else ∅
  unitless _ := False
  amount g _ _ := amtOf (kindOf g.2)
  payload g _ d := payOf xs g.1.1 d (kindOf g.2)
  amount_pos g _ _ _ := by
    rcases kindOf g.2 with _ | _ | ⟨_, i, s⟩
    · exact Nat.one_pos
    · exact Nat.one_pos
    · exact amt_pos i s

instance sched_payload_storable (g : GSem nD τ sig) (r : ℕ) (d : Fin 3) :
    BI.Storable (upEmb : UEmb _ 𝕄) ((sched (F := F) xs).payload g r d) := payOf_storable xs _ _ _

theorem duties_at (c : Dev nD) (k : Kd) : (sched (F := F) xs).duties (kcell (c, k)) 0 = dutOf (some k) := by
  dsimp only [sched]; rw [if_pos ⟨rfl, rfl⟩, kindOf_csem]
theorem duties_later (g : GSem nD τ sig) : ∀ r, 1 ≤ r → (sched (F := F) xs).duties g r = ∅ :=
  fun r hr => by dsimp only [sched]; exact if_neg fun h => by omega
theorem amount_at (c : Dev nD) (k : Kd) (r : ℕ) (d : Fin 3) : (sched (F := F) xs).amount (kcell (c, k)) r d = amtOf (some k) := by
  dsimp only [sched]; rw [kindOf_csem]
theorem payload_at (c : Dev nD) (k : Kd) (r : ℕ) (d : Fin 3) : (sched (F := F) xs).payload (kcell (c, k)) r d = payOf xs c d (some k) := by
  dsimp only [sched]; rw [kindOf_csem]

theorem expect_bar (c : Dev nD) : (sched (F := F) xs).expect (bCell c) 0 = 3 := by
  unfold Schedule.expect Schedule.amountOf
  rw [duties_at, Finset.sum_congr rfl fun d _ => amount_at xs c none 0 d]
  rfl
theorem expect_xfer (c : Dev nD) (b : Bool) (i : Fin 6) (s : Fin 9) : (sched (F := F) xs).expect (kcell (c, some (b, i, s))) 0 = amt i s := by
  unfold Schedule.expect Schedule.amountOf
  rw [duties_at]
  show Finset.sum {0} _ = _
  rw [Finset.sum_singleton, amount_at]; rfl

theorem rest_xfer (c : Dev nD) (b : Bool) (i : Fin 6) (s : Fin 9) :
    bigSep ((sched (F := F) xs).duties (kcell (c, some (b, i, s))) 0 \ ∅) (fun d => (sched (F := F) xs).payload (kcell (c, some (b, i, s))) 0 d)
      = payOf xs c 0 (some (some (b, i, s))) := by
  rw [Finset.sdiff_empty, duties_at]
  show bigSep {0} _ = _
  rw [bigSep_singleton, payload_at]

/-- The barrier's wait brings every region the device's transfers write. -/
theorem rest_bar (c : Dev nD) :
    bigSep ((sched (F := F) xs).duties (bCell c) 0 \ ∅) (fun d => (sched (F := F) xs).payload (bCell c) 0 d)
      = bigSep Finset.univ fun p : Fin 6 × Fin 9 => anyOwn (tgt p.1 p.2 c) ((inst p.1).dst c p.2) := by
  rw [Finset.sdiff_empty, duties_at, bigSep_congr fun d _ => payload_at xs c none 0 d,
    bigSep_fiberwise Finset.univ (fun p : Fin 6 × Fin 9 => dirOf p.1 p.2)]
  show bigSep Finset.univ (fun d => barPay c d) = _
  rw [show (Finset.univ.image fun p : Fin 6 × Fin 9 => dirOf p.1 p.2) = Finset.univ by decide]
  rfl

end Sched

/-! ## What is owed -/

/-- The order in which a device starts its transfers. -/
def rk (i : Fin 6) (s : Fin 9) : ℕ :=
  (![i.val, 6 + i.val, 12 + i.val, 18 + 2 * i.val, 19 + 2 * i.val, 30 + 4 * i.val, 31 + 4 * i.val, 32 + 4 * i.val, 33 + 4 * i.val] : Fin 9 → ℕ) s

theorem rk_inj : Function.Injective fun p : Fin 6 × Fin 9 => rk p.1 p.2 := by
  unfold Function.Injective; decide +kernel

/-- What `c` owes before its `n`-th transfer. -/
def Ow (c : Dev nD) (n : ℕ) : CellTallies nD τ sig Unit :=
  ∑ p ∈ Finset.univ.filter (fun p : Fin 6 × Fin 9 => n ≤ rk p.1 p.2), tallyAt (rCell (tgt p.1 p.2 c) p.1 p.2) () (amt p.1 p.2)

theorem Ow_step (c : Dev nD) (i : Fin 6) (s : Fin 9) :
    Ow c (rk i s) = Ow c (rk i s + 1) + tallyAt (rCell (tgt i s c) i s) () (amt i s) := by
  unfold Ow
  rw [show (Finset.univ.filter fun p : Fin 6 × Fin 9 => rk i s ≤ rk p.1 p.2)
      = insert (i, s) (Finset.univ.filter fun p : Fin 6 × Fin 9 => rk i s + 1 ≤ rk p.1 p.2) by
    ext p
    rw [Finset.mem_insert, Finset.mem_filter, Finset.mem_filter]
    constructor
    · rintro ⟨-, h⟩
      rcases Nat.eq_or_lt_of_le h with h | h
      · exact .inl (rk_inj h.symm)
      · exact .inr ⟨Finset.mem_univ _, h⟩
    · rintro (rfl | ⟨-, h⟩)
      · exact ⟨Finset.mem_univ _, le_rfl⟩
      · exact ⟨Finset.mem_univ _, by omega⟩,
    Finset.sum_insert (by rw [Finset.mem_filter]; rintro ⟨-, h⟩; exact absurd (show rk i s + 1 ≤ rk i s from h) (by omega)), add_comm]

theorem Ow_end (c : Dev nD) : Ow c 54 = 0 := by
  unfold Ow
  rw [show (Finset.univ.filter fun p : Fin 6 × Fin 9 => 54 ≤ rk p.1 p.2) = ∅ by decide +kernel, Finset.sum_empty]

/-- What `c` owes at the start: its transfers and a signal to each neighbour. -/
def Ow₀ (c : Dev nD) : CellTallies nD τ sig Unit :=
  Ow c 0 + tallyAt (bCell (nbr 2 c)) () 1 + tallyAt (bCell (nbr 1 c)) () 1 + tallyAt (bCell (nbr 0 c)) () 1

theorem Ow_pos {c : Dev nD} {n : ℕ} {g : GSem nD τ sig} {u : Unit} (h : 0 < Ow c n g u) :
    ∃ i s, n ≤ rk i s ∧ g = rCell (tgt i s c) i s := by
  unfold Ow at h
  rw [Finset.sum_apply, Finsupp.finset_sum_apply] at h
  obtain ⟨p, hp, hpos⟩ := Finset.exists_ne_zero_of_sum_ne_zero (Nat.pos_iff_ne_zero.mp h)
  refine ⟨p.1, p.2, (Finset.mem_filter.mp hp).2, ?_⟩
  rw [tallyAt_apply] at hpos
  by_contra hn
  exact hpos (if_neg fun h' => hn h'.1)

theorem Ow₀_pos {c : Dev nD} {g : GSem nD τ sig} {u : Unit} (h : 0 < Ow₀ c g u) :
    (∃ i s, g = rCell (tgt i s c) i s) ∨ ∃ d, g = bCell (nbr d c) := by
  unfold Ow₀ at h
  rw [Pi.add_apply, Finsupp.add_apply, Pi.add_apply, Finsupp.add_apply, Pi.add_apply, Finsupp.add_apply, tallyAt_apply, tallyAt_apply, tallyAt_apply] at h
  by_contra hn
  rw [not_or] at hn
  have h0 : Ow c 0 g u = 0 := Nat.eq_zero_of_not_pos fun h' => by
    obtain ⟨i, s, -, e⟩ := Ow_pos h'; exact hn.1 ⟨i, s, e⟩
  rw [h0, if_neg (fun h' => hn.2 ⟨2, h'.1⟩), if_neg (fun h' => hn.2 ⟨1, h'.1⟩), if_neg (fun h' => hn.2 ⟨0, h'.1⟩)] at h
  exact Nat.lt_irrefl 0 h

/-! ## The order of the semaphores -/

def lvS : Fin 9 → ℕ := ![2, 3, 4, 5, 5, 6, 6, 6, 6]

def lvOf : Option Kd → ℕ
  | some none => 1
  | some (some (true, _, s)) => lvS s
  | _ => 0

def lev (g : GSem nD τ sig) (_ : Unit) : ℕ := lvOf (kindOf g.2)
def LL (g : GSem nD τ sig) : Finset Unit := if g.1.2 = .tc then {()} else ∅

theorem LL_of_ne (g : GSem nD τ sig) (h : g.1.2 ≠ .tc) : LL g = ∅ := if_neg h
theorem LL_tc (c : Dev nD) (sm : SemLoc sig) : LL ((c : Thread nD τ), sm) = {()} := if_pos rfl

theorem lev_at (c : Dev nD) (k : Kd) : lev (kcell (c, k)) () = lvOf (some k) := by unfold lev; rw [kindOf_csem]

omit [FloatOps F] in
/-- A wait is answerable when everything still owed is of a later level. -/
theorem mayWait_of (c : Dev nD) (sm : SemLoc sig) (n : ℕ)
    (h : ∀ i s, n ≤ rk i s → lvOf (kindOf sm) < lvS s) : (levAts LL lev : sProp 𝕄) ⊢ MayWait (c : Thread nD τ) sm () (Ow c n) :=
  MayOwe.of_cut (L := LL) (lev := lev) (lvOf (kindOf sm))
    (fun p hp => by rw [Finset.mem_singleton.mp hp, LL_tc]; exact Finset.mem_singleton_self _)
    (fun g u hg => by obtain ⟨i, s, -, rfl⟩ := Ow_pos hg; rw [LL_tc]; exact Finset.mem_singleton_self _)
    (fun p hp => by rw [Finset.mem_singleton.mp hp]; exact le_rfl)
    (fun g u hg => by
      obtain ⟨i, s, hn, rfl⟩ := Ow_pos hg
      show lvOf (kindOf sm) < lev (kcell (tgt i s c, some (true, i, s))) ()
      rw [lev_at]; exact h i s hn)

omit [FloatOps F] in
/-- A wait of the launch's own staging is answerable throughout. -/
theorem mayWait_stage (c : Dev nD) (q : DmaSem sig) (hq : kindOf (.dma q) = none) (O : CellTallies nD τ sig Unit) (hO : O = Ow₀ c ∨ O = 0) :
    (levAts LL lev : sProp 𝕄) ⊢ MayWait (c : Thread nD τ) (.dma q) () O := by
  rcases hO with rfl | rfl
  · refine MayOwe.of_cut (L := LL) (lev := lev) 0 (fun p hp => by rw [Finset.mem_singleton.mp hp, LL_tc]; exact Finset.mem_singleton_self _)
      (fun g u hg => by rcases Ow₀_pos hg with ⟨i, s, rfl⟩ | ⟨d, rfl⟩ <;> (rw [LL_tc]; exact Finset.mem_singleton_self _))
      (fun p hp => by rw [Finset.mem_singleton.mp hp]; show lvOf (kindOf (.dma q)) ≤ 0; rw [hq]; exact le_rfl)
      (fun g u hg => by
        rcases Ow₀_pos hg with ⟨i, s, rfl⟩ | ⟨d, rfl⟩
        · show 0 < lev (kcell (tgt i s c, some (true, i, s))) ()
          rw [lev_at]; exact (show ∀ s, 0 < lvS s by decide) s
        · show 0 < lev (kcell (nbr d c, none)) ()
          rw [lev_at]; decide)
  · rw [MayWait_zero]; iintro -; iempintro

end Cert.KernelIdeal.AR

end
-- ==== Proof.Steps.lean ====
/-
# One step at a time

Rules for the body's steps: a group loaded, a group stored, a transfer started, a transfer waited for at either end, and
a step run at each element of a list.
-/
module

public import proofs.«01_k».proof.Proof.Proto
public import Idealize.ShloMosaic.Lib.Pipeline.BigSepL

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What must hold for a program on device `c` to run to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_ret (c : Dev nD) {α : Type} (a : α) (Q : α → sProp 𝕄) : WP (F := F) c (.ret a) Q = iprop(|={Set.univ}=> Q a) := wp_ret _ _ _ a Q
theorem WP_bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p fun a => WP c (k a) Q := wp_bind _ _ _ p k Q

variable (xs : Dev nD → (X).view.ty.Contents (Elt F))

/-- What every device knows throughout: each semaphore's protocol, under the names `K`, and the order of the semaphores. -/
def recs (K : Dev nD × Kd → ℕ) : sProp 𝕄 :=
  iprop((bigSep Finset.univ fun p : Dev nD × Kd => cellInv ER (sched xs) (K p) (kcell p))
    ∗ (bigSep Finset.univ fun p : Dev nD × Kd => reached ER (kcell p) 0) ∗ levAts LL lev)

instance recs_persistent (K : Dev nD × Kd → ℕ) : BI.Persistent (recs (F := F) xs K) := by unfold recs; infer_instance

variable (K : Dev nD × Kd → ℕ)

theorem recs_inv (p : Dev nD × Kd) : recs (F := F) xs K ⊢ cellInv ER (sched xs) (K p) (kcell p) := by
  unfold recs
  iintro ⟨H, -, -⟩
  iapply (show (bigSep Finset.univ fun p : Dev nD × Kd => (cellInv ER (sched xs) (K p) (kcell p) : sProp 𝕄)) ⊢ cellInv ER (sched xs) (K p) (kcell p) from
    bigSep_elim (Finset.mem_univ p))
  iexact H
theorem recs_reached (p : Dev nD × Kd) : recs (F := F) xs K ⊢ reached ER (kcell p) 0 := by
  unfold recs
  iintro ⟨-, H, -⟩
  iapply (show (bigSep Finset.univ fun p : Dev nD × Kd => (reached ER (kcell p) 0 : sProp 𝕄)) ⊢ reached ER (kcell p) 0 from
    bigSep_elim (Finset.mem_univ p))
  iexact H
theorem recs_lev : recs (F := F) xs K ⊢ levAts LL lev := by
  unfold recs
  iintro ⟨-, -, H⟩
  iexact H

/-- `c` owes what its transfers from the `n`-th on bring. -/
def owesN (c : Dev nD) (n : ℕ) : sProp 𝕄 := iprop(∃ W, owes (c : Thread nD τ) (Ow c n) W)

section Rules

variable (c : Dev nD)

/-! ## Transfers -/

/-- Start a transfer, to the device it goes to: its source is lent and its destination given away until they arrive. -/
theorem wp_snd_to {Q : PUnit.{1} → sProp 𝕄} (i : Fin 6) (s : Fin 9) {n n' : ℕ} (hn : n = rk i s) (hn' : n' = n + 1)
    (p : Dev nD) (hp : p = tgt i s c) {hsc} {hsrc hdst} {hsem} :
    iprop(recs xs K ∗ owesN c n ∗ held c ((inst i).src c s) (shr s) (sent xs c i s) ∗ anyOwn (tgt i s c) ((inst i).dst c s)
        ∗ dutyTok ER (sCell c i s) 0 0 ∗ dutyTok ER (rCell (tgt i s c) i s) 0 0
        ∗ ((cred (tallyAt (sCell c i s) () (amt i s)) ∗ owesN c n') -∗ Q ⟨⟩))
      ⊢ WP c (Prog.lift (.enqueueDma ((inst i).src c s) (.remote (Dev.tc p) ((inst i).dst c s) (.dma (sSem i s)) hsc) (.dma (rSem i s))
          hsrc hdst hsem) : PR F) Q := by
  subst hn' hn
  subst hp
  unfold owesN held heldOn anyOwn
  simp only [Prog.lift]
  iintro ⟨#HR, ⟨%W, HO⟩, ⟨%fs, %hfs, Hs⟩, ⟨%fd, Hd⟩, Ht1, Ht2, HQ⟩
  iapply (Rounds.wp_send_pointsTo 𝒱₀ ER (sched xs) (c : Thread nD τ) none (κ₁ := K (c, some (false, i, s))) (κ₂ := K (tgt i s c, some (true, i, s)))
    (c' := (tgt i s c : Thread nD τ)) (sS := .dma (sSem i s)) (sem := .dma (rSem i s)) (q := shr s) (fs := fs)
    (r₁ := 0) (r₂ := 0) (d₁ := 0) (d₂ := 0) (fd := fd)
    (by rw [show ((c : Thread nD τ), SemLoc.dma (sSem i s)) = kcell (c, some (false, i, s)) from rfl, duties_at]; exact Finset.mem_singleton_self _)
    (by rw [show ((tgt i s c : Thread nD τ), SemLoc.dma (rSem i s)) = kcell (tgt i s c, some (true, i, s)) from rfl, duties_at]; exact Finset.mem_singleton_self _)
    () () (amt i s) (dst_credit i c s) (amount_at xs c (some (false, i, s)) 0 0) (amount_at xs (tgt i s c) (some (true, i, s)) 0 0)
    (Ow c (rk i s + 1)) (Ow_step c i s) (W := W)
    (by
      rw [show ((c : Thread nD τ), SemLoc.dma (sSem i s)) = kcell (c, some (false, i, s)) from rfl, payload_at]
      show _ ⊢ sendPay xs c i s
      unfold sendPay held heldOn
      iintro H
      iexists fs
      isplitr
      · ipureintro; exact hfs
      · iexact H)
    (by
      rw [show ((tgt i s c : Thread nD τ), SemLoc.dma (rSem i s)) = kcell (tgt i s c, some (true, i, s)) from rfl, payload_at]
      show _ ⊢ recvPay xs (tgt i s c) i s
      unfold recvPay held heldOn
      rw [tgt_tgt]
      iintro H
      iexists _
      isplitr
      · ipureintro; exact hfs.copy fd
      · iexact H)) $$ [HO Hs Hd Ht1 Ht2]
  · isplitr; · iapply (recs_inv xs K (c, some (false, i, s))); iexact HR
    isplitr; · iapply (recs_inv xs K (tgt i s c, some (true, i, s))); iexact HR
    isplitl [Hs]; · iexact Hs
    isplitl [Hd]; · iexact Hd
    isplitl [HO]; · iexact HO
    isplitl [Ht1]; · iexact Ht1
    isplitr; · iapply (recs_reached xs K (c, some (false, i, s))); iexact HR
    isplitl [Ht2]; · iexact Ht2
    iapply (recs_reached xs K (tgt i s c, some (true, i, s))); iexact HR
  iintro ⟨Hc, HO⟩
  rw [wp_ret]; imodintro
  iapply HQ
  isplitl [Hc]; · iexact Hc
  iexists W; iexact HO

/-- Start a transfer, as printed. -/
theorem wp_snd {Q : PUnit.{1} → sProp 𝕄} (i : Fin 6) (s : Fin 9) {n n' : ℕ} (hn : n = rk i s) (hn' : n' = n + 1) :
    iprop(recs xs K ∗ owesN c n ∗ held c ((inst i).src c s) (shr s) (sent xs c i s) ∗ anyOwn (tgt i s c) ((inst i).dst c s)
        ∗ dutyTok ER (sCell c i s) 0 0 ∗ dutyTok ER (rCell (tgt i s c) i s) 0 0
        ∗ ((cred (tallyAt (sCell c i s) () (amt i s)) ∗ owesN c n') -∗ Q ⟨⟩))
      ⊢ WP c (send (F := F) i c s) Q :=
  wp_snd_to xs K c i s hn hn' _ (peer_eq i c s)

/-- Wait for a transfer to arrive: its destination comes with what it carried, and the semaphore is done with. -/
theorem wp_wR {Q : PUnit.{1} → sProp 𝕄} (i : Fin 6) (s : Fin 9) (n : ℕ) (h : ∀ i' s', n ≤ rk i' s' → lvS s < lvS s') :
    iprop(recs xs K ∗ owesN c n ∗ cred (tallyAt (rCell c i s) () (amt i s)) ∗ atPos ER (rCell c i s) 0 ∅ 0
        ∗ ((owesN c n ∗ semVal (rCell c i s) 0 ∗ recvPay xs c i s) -∗ Q ⟨⟩))
      ⊢ WP c (waitR (F := F) i c s) Q := by
  unfold waitR owesN
  simp only [Prog.lift]
  iintro ⟨#HR, ⟨%W, HO⟩, Hc, Hat, HQ⟩
  iapply (Rounds.wp_wait_rest_token 𝒱₀ ER (sched xs) (c : Thread nD τ) none (κ := K (c, some (true, i, s)))
      (wpE_waitDma2_eq 𝒱₀ (c : Thread nD τ) none Set.univ) (Set.mem_univ _) () (O := Ow c n) (W := W) (R := 0) (m := 0) (T := ∅)
      (by rw [Nat.zero_add, dst_credit]; exact (expect_xfer xs c true i s).symm)) $$ [HO Hc Hat]
  · isplitr; · iapply (recs_inv xs K (c, some (true, i, s))); iexact HR
    isplitl [Hc]; · rw [dst_credit]; iexact Hc
    isplitl [HO]; · iexact HO
    isplitr
    · iapply (mayWait_of c (csem (some (true, i, s))) n (by rw [kindOf_csem]; exact h))
      iapply (recs_lev xs K); iexact HR
    iexact Hat
  iintro ⟨HO, Hat, -, Hpay⟩
  ihave Hp := (show (bigSep ((sched (F := F) xs).duties ((c : Thread nD τ), .dma (rSem i s)) 0 \ ∅)
    (fun d => (sched (F := F) xs).payload ((c : Thread nD τ), .dma (rSem i s)) 0 d) : sProp 𝕄) ⊢ recvPay xs c i s from
      Entails.of_eq (rest_xfer xs c true i s)) $$ Hpay
  rw [wp_ret]
  imod (Rounds.cell_close ER (sched xs) (Set.mem_univ (K (c, some (true, i, s)))) (fun h => h) (R := 0 + 1) (duties_later xs (rCell c i s))) $$ [Hat] with Hz
  · isplitr; · iapply (recs_inv xs K (c, some (true, i, s))); iexact HR
    iexact Hat
  imodintro
  iapply HQ
  isplitl [HO]; · iexists _; iexact HO
  isplitl [Hz]; · iexact Hz
  iexact Hp

/-- Wait for a transfer to have left: its source comes back. -/
theorem wp_wS {Q : PUnit.{1} → sProp 𝕄} (i : Fin 6) (s : Fin 9) (n : ℕ) :
    iprop(recs xs K ∗ owesN c n ∗ cred (tallyAt (sCell c i s) () (amt i s)) ∗ atPos ER (sCell c i s) 0 ∅ 0
        ∗ ((owesN c n ∗ semVal (sCell c i s) 0 ∗ sendPay xs c i s) -∗ Q ⟨⟩))
      ⊢ WP c (waitS (F := F) i c s) Q := by
  unfold waitS owesN
  simp only [Prog.lift]
  iintro ⟨#HR, ⟨%W, HO⟩, Hc, Hat, HQ⟩
  iapply (Rounds.wp_wait_rest_token 𝒱₀ ER (sched xs) (c : Thread nD τ) none (κ := K (c, some (false, i, s)))
      (wpE_waitDma2_eq 𝒱₀ (c : Thread nD τ) none Set.univ) (Set.mem_univ _) () (O := Ow c n) (W := W) (R := 0) (m := 0) (T := ∅)
      (by rw [Nat.zero_add, src_credit]; exact (expect_xfer xs c false i s).symm)) $$ [HO Hc Hat]
  · isplitr; · iapply (recs_inv xs K (c, some (false, i, s))); iexact HR
    isplitl [Hc]; · rw [src_credit]; iexact Hc
    isplitl [HO]; · iexact HO
    isplitr
    · iapply (mayWait_of c (csem (some (false, i, s))) n (by rw [kindOf_csem]; exact fun _ s _ => (show ∀ s, 0 < lvS s by decide) s))
      iapply (recs_lev xs K); iexact HR
    iexact Hat
  iintro ⟨HO, Hat, -, Hpay⟩
  ihave Hp := (show (bigSep ((sched (F := F) xs).duties ((c : Thread nD τ), .dma (sSem i s)) 0 \ ∅)
    (fun d => (sched (F := F) xs).payload ((c : Thread nD τ), .dma (sSem i s)) 0 d) : sProp 𝕄) ⊢ sendPay xs c i s from
      Entails.of_eq (rest_xfer xs c false i s)) $$ Hpay
  rw [wp_ret]
  imod (Rounds.cell_close ER (sched xs) (Set.mem_univ (K (c, some (false, i, s)))) (fun h => h) (R := 0 + 1) (duties_later xs (sCell c i s))) $$ [Hat] with Hz
  · isplitr; · iapply (recs_inv xs K (c, some (false, i, s))); iexact HR
    iexact Hat
  imodintro
  iapply HQ
  isplitl [HO]; · iexists _; iexact HO
  isplitl [Hz]; · iexact Hz
  iexact Hp

/-! ## Groups -/

section Groups

variable {sz : Fin 2 → Nat} {e : EltTy} (M : Memref sig .tc .vmem ⟨2, sz⟩ e) {k rc : Nat} {off off' : Fin 2 → Nat}
  (inb : ∀ a, off a + (![k * rc, 256] : Fin 2 → Nat) a ≤ sz a) (inb' : ∀ a, off' a + (![rc, 256] : Fin 2 → Nat) a ≤ sz a)
  {t : Nat} (ht : t < k) (hoff : ∀ a, off' a = off a + (![t * rc, 0] : Fin 2 → Nat) a)

include ht hoff in
/-- Load a group of a region held. -/
theorem wp_ldG {α : Type} {Q : α → sProp 𝕄} {hl : M.view.LoadsAt (rc1 inb').toLoadRect} {P : ℕ → Prop} {vals : ℕ → Blk F rc e} (hP : P t)
    (q : PosShare TreeShare) {kk : Blk F rc e → Prog (TpuEff nD τ sig (Elt F) Λ₀ .tc) α} :
    iprop(heldOn c (M.slice (rcs inb) (fun _ => rfl)) q P vals
        ∗ (heldOn c (M.slice (rcs inb) (fun _ => rfl)) q P vals -∗ WP c (kk (vals t)) Q))
      ⊢ WP c (.op (.load M (rc1 inb').toLoadRect hl) kk) Q := by
  unfold heldOn
  iintro ⟨⟨%f, %hf, H⟩, HQ⟩
  iapply (wp_load_rect 𝒱₀ (c : Thread nD τ) none Set.univ (m := M) (r := rc1 inb') (sub_set M.view inb inb' ht hoff)) $$ H
  iintro H
  have hv : (M.access (rc1 inb')).read (Elt F) f = vals t := by
    rw [← hf t ht hP]; exact (read_sub M.view inb inb' ht hoff f).symm
  rw [hv]
  iapply HQ
  iexists f
  isplitr
  · ipureintro; exact hf
  · iexact H

include ht hoff in
/-- Store a group of a region held, after a load of it whose value is not used. -/
theorem wp_stG {Q : PUnit.{1} → sProp 𝕄} {hl : M.view.LoadsAt (rc1 inb').toLoadRect} {P : ℕ → Prop} {vals : ℕ → Blk F rc e} {w : Blk F rc e}
    {hx : (M.access (rc1 inb')).Stores Finset.univ} {hm} (hw : w = vals t) :
    iprop(heldOn c (M.slice (rcs inb) (fun _ => rfl)) fullShare P vals
        ∗ (heldOn c (M.slice (rcs inb) (fun _ => rfl)) fullShare (fun x => x = t ∨ P x) vals -∗ Q ⟨⟩))
      ⊢ WP c (.op (.load M (rc1 inb').toLoadRect hl) fun _ => .op (.store M (rc1 inb') w Finset.univ hx hm) fun x => .ret x) Q := by
  unfold heldOn
  iintro ⟨⟨%f, %hf, H⟩, HQ⟩
  iapply (wp_load_rect 𝒱₀ (c : Thread nD τ) none Set.univ (m := M) (r := rc1 inb') (sub_set M.view inb inb' ht hoff)) $$ H
  iintro H
  iapply (wp_store 𝒱₀ (c : Thread nD τ) none Set.univ (m := M) (r := rc1 inb') (Mk := Finset.univ)
    (by rw [View.setOn_univ]; exact sub_set M.view inb inb' ht hoff)) $$ H
  iintro H
  rw [wp_ret]; imodintro
  iapply HQ
  iexists _
  isplitr
  · ipureintro; exact hf.write M.view inb inb' hoff w hw
  · iexact H

end Groups

/-! ## A list of steps -/

/-- What holds across the steps at a list's elements: `Sh` at a place that moves on with each, `A` at the elements not yet
    visited, `B` at those visited. -/
theorem wp_seq {ι : Type} (f : ι → PR F) (pos : ι → ℕ) (δ : ℕ) (Sh : ℕ → sProp 𝕄) (A B : ι → sProp 𝕄)
    (hstep : ∀ a (Q : PUnit.{1} → sProp 𝕄), iprop(Sh (pos a) ∗ A a ∗ ((Sh (pos a + δ) ∗ B a) -∗ Q ⟨⟩)) ⊢ WP c (f a) Q) :
    ∀ (l : List ι) (n : ℕ), (∀ j (h : j < l.length), pos l[j] = n + δ * j) →
      ∀ Q : PUnit.{1} → sProp 𝕄, iprop(Sh n ∗ bigSepL l A ∗ ((Sh (n + δ * l.length) ∗ bigSepL l B) -∗ Q ⟨⟩)) ⊢ WP c (seq l f) Q := by
  intro l
  induction l with
  | nil =>
    intro n _ Q
    show _ ⊢ WP c (.ret ⟨⟩) Q
    iintro ⟨HS, HA, HQ⟩
    rw [WP_ret]; imodintro
    iapply HQ
    isplitl [HS]; · iexact HS
    iexact HA
  | cons a l ih =>
    intro n hpos Q
    have h0 : pos a = n := by have := hpos 0 (by simp); simpa using this
    show _ ⊢ WP c (f a >>= fun _ => seq l f) Q
    rw [WP_bind, bigSepL_cons', bigSepL_cons']
    iintro ⟨HS, ⟨Ha, HA⟩, HQ⟩
    iapply (hstep a (fun _ => WP c (seq l f) Q))
    rw [h0]
    isplitl [HS]; · iexact HS
    isplitl [Ha]; · iexact Ha
    iintro ⟨HS, Hb⟩
    iapply (ih (n + δ) (fun j hj => by
      have := hpos (j + 1) (by simpa using hj)
      rw [List.getElem_cons_succ] at this
      rw [this, Nat.mul_succ]; omega) Q)
    isplitl [HS]; · iexact HS
    isplitl [HA]; · iexact HA
    iintro ⟨HS, HB⟩
    iapply HQ
    isplitl [HS]
    · rw [List.length_cons, Nat.mul_succ, show n + (δ * l.length + δ) = n + δ + δ * l.length by omega]
      iexact HS
    isplitl [Hb]; · iexact Hb
    iexact HB

end Rules

end Cert.KernelIdeal.AR

end
-- ==== Proof.Phases.lean ====
/-
# The phases of a part

What each phase of a part takes and leaves.
-/
module

public import proofs.«01_k».proof.Proof.Steps

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → (X).view.ty.Contents (Elt F)) (K : Dev nD × Kd → ℕ)

/-- The input block, held. -/
def xPts (c : Dev nD) : sProp 𝕄 := (X).view.loc (c : Thread nD τ) ↦[(X).view.set]{fullShare} xs c

/-- What goes from one step to the next: what is owed, and the input. -/
def Shd (c : Dev nD) (n : ℕ) : sProp 𝕄 := iprop(owesN c n ∗ xPts xs c)

/-- The regions of the scratch buffers. -/
abbrev rcvR (i : Fin 6) (t k : ℕ) (h : t + k ≤ 8) : Memref sig .tc .vmem (Sh k (inst i).rc) .bf16 :=
  (inst i).rcv.slice (reg 8 (inst i).rc t k h) (fun _ => rfl)
abbrev sndR (i : Fin 6) (t k : ℕ) (h : t + k ≤ 8) : Memref sig .tc .vmem (Sh k (inst i).rc) .bf16 :=
  (inst i).snd.slice (reg 8 (inst i).rc t k h) (fun _ => rfl)
abbrev accR (i : Fin 6) : Memref sig .tc .vmem (Sh 4 (inst i).rc) .f32 :=
  (inst i).acc.slice (reg 4 (inst i).rc 0 4 (by decide)) (fun _ => rfl)

theorem h04 : 0 + 4 ≤ 8 := by decide
theorem h42 : 4 + 2 ≤ 8 := by decide
theorem h62 : 6 + 2 ≤ 8 := by decide

theorem off_add {rc t' t₀ t : ℕ} (h : t' = t₀ + t) : ∀ a, (![t' * rc, 0] : Fin 2 → ℕ) a = (![t₀ * rc, 0] : Fin 2 → ℕ) a + (![t * rc, 0] : Fin 2 → ℕ) a := by
  subst h
  intro a
  fin_cases a
  · exact Nat.add_mul _ _ _
  · rfl

section Rules

variable (c : Dev nD) (i : Fin 6)

/-- Load a rectangle of a buffer held whole. -/
theorem wp_ldW {α : Type} {Q : α → sProp 𝕄} {s : Shape} {e : EltTy} (M : Memref sig .tc .vmem s e) (r : Rect s) {hl : M.view.LoadsAt r.toLoadRect}
    {q : PosShare TreeShare} (f : M.view.ty.Contents (Elt F)) {kk : (r.shape.Idx → Elt F e) → Prog (TpuEff nD τ sig (Elt F) Λ₀ .tc) α} :
    iprop((M.view.loc (c : Thread nD τ) ↦[M.view.set]{q} f)
        ∗ ((M.view.loc (c : Thread nD τ) ↦[M.view.set]{q} f) -∗ WP c (kk ((M.access r).read (Elt F) f)) Q))
      ⊢ WP c (.op (.load M r.toLoadRect hl) kk) Q := by
  iintro ⟨H, HQ⟩
  iapply (wp_load_rect 𝒱₀ (c : Thread nD τ) none Set.univ (m := M) (r := r) (View.set_slice_subset M.view r)) $$ H
  iintro H
  iapply HQ
  iexact H

/-- Load a group of the input. -/
theorem wp_ldX {α : Type} {Q : α → sProp 𝕄} (a b e : Fin 2) {kk : Blk F (inst i).rc .bf16 → Prog (TpuEff nD τ sig (Elt F) Λ₀ .tc) α} :
    iprop(xPts xs c ∗ (xPts xs c -∗ WP c (kk (xv xs c i a b e)) Q)) ⊢ WP c (ldX c (inst i) a b e >>= kk) Q := by
  exact wp_ldW c X (Rect.unit (s := S2048x512) ((inst i).xoff c a b e) ![(inst i).rc, 256] ((inst i).xinb c a b e)) (xs c)

/-- Load a group of a region of a scratch buffer. -/
theorem wp_ld {α : Type} {Q : α → sProp 𝕄} {n rc : ℕ} {e : EltTy} (M : Memref sig .tc .vmem (Sh n rc) e) {t₀ k : ℕ} (hk : t₀ + k ≤ n) {t' : ℕ} (ht' : t' < n)
    (t : ℕ) (ht : t < k) (he : t' = t₀ + t) {q : PosShare TreeShare} {P : ℕ → Prop} {vals : ℕ → Blk F rc e} (hP : P t) {hp : 0 < (Sh1 rc).numel}
    {kk : Blk F rc e → Prog (TpuEff nD τ sig (Elt F) Λ₀ .tc) α} :
    iprop(heldOn c (M.slice (reg n rc t₀ k hk) (fun _ => rfl)) q P vals
        ∗ (heldOn c (M.slice (reg n rc t₀ k hk) (fun _ => rfl)) q P vals -∗ WP c (kk (vals t)) Q))
      ⊢ WP c (ld M t' ht' hp >>= kk) Q :=
  wp_ldG c M (k := k) (reg_inb hk) (chk_inb ht') ht (off_add he) hP q

/-- Store a group of a region of the send buffer. -/
theorem wp_stSnd {Q : PUnit.{1} → sProp 𝕄} {t₀ k : ℕ} (hk : t₀ + k ≤ 8) {t' : ℕ} (ht' : t' < 8)
    (t : ℕ) (ht : t < k) (he : t' = t₀ + t) {P : ℕ → Prop} {vals : ℕ → Blk F (inst i).rc .bf16} {w : Blk F (inst i).rc .bf16} (hw : w = vals t) :
    iprop(heldOn c (sndR i t₀ k hk) fullShare P vals ∗ (heldOn c (sndR i t₀ k hk) fullShare (fun x => x = t ∨ P x) vals -∗ Q ⟨⟩))
      ⊢ WP c (stSnd (inst i) t' ht' w) Q :=
  wp_stG c (inst i).snd (k := k) (reg_inb hk) (chk_inb ht') ht (off_add he) hw

/-- Store a group of the accumulator. -/
theorem wp_stAcc {Q : PUnit.{1} → sProp 𝕄} {t' : ℕ} (ht' : t' < 4) {P : ℕ → Prop} {vals : ℕ → Blk F (inst i).rc .f32} {w : Blk F (inst i).rc .f32} (hw : w = vals t') :
    iprop(heldOn c (accR i) fullShare P vals ∗ (heldOn c (accR i) fullShare (fun x => x = t' ∨ P x) vals -∗ Q ⟨⟩))
      ⊢ WP c (stAcc (inst i) t' ht' w) Q :=
  wp_stG c (inst i).acc (k := 4) (reg_inb (by decide)) (chk_inb ht') ht' (off_add (by rw [Nat.zero_add])) hw

/-- Store a group of the result. -/
theorem wp_stOut {Q : PUnit.{1} → sProp 𝕄} (k : Fin 2) (w : Blk F (inst i).rc .bf16) :
    iprop(anyOwn c (oM i (grp i c 0 0 k)) ∗ (held c (oM i (grp i c 0 0 k)) fullShare (fun _ => w) -∗ Q ⟨⟩))
      ⊢ WP c (stOut c (inst i) k w) Q := by
  iintro ⟨H, HQ⟩
  ihave H := (any_heldOn c (oM i (grp i c 0 0 k)) (fun _ => w)) $$ H
  iapply (wp_stG c O (k := 1) (t := 0) (vals := fun _ => w) (P := fun _ => False) (org_inb i (grp i c 0 0 k)) ((inst i).stinb c k) Nat.one_pos
    (fun a => by rw [st_eq]; fin_cases a <;> simp) rfl)
  isplitl [H]; · iexact H
  iintro H
  iapply HQ
  iapply (heldOn_mono c (oM i (grp i c 0 0 k)) fullShare (P := fun x => x = 0 ∨ False) (fun t ht _ => ⟨Or.inl (by omega), rfl⟩))
  iexact H

/-! ## Copy -/

theorem wp_copy1 {Q : PUnit.{1} → sProp 𝕄} (b e : Fin 2) {P : ℕ → Prop} :
    iprop(xPts xs c ∗ heldOn c (sndR i 0 4 h04) fullShare P (v0 xs c i)
        ∗ ((xPts xs c ∗ heldOn c (sndR i 0 4 h04) fullShare (fun x => x = 2 * b.val + e.val ∨ P x) (v0 xs c i)) -∗ Q ⟨⟩))
      ⊢ WP c (copy1 i c b e) Q := by
  unfold copy1
  iintro ⟨HX, HS, HQ⟩
  iapply (wp_ldX xs c i 1 b e)
  isplitl [HX]; · iexact HX
  iintro HX
  iapply (wp_stSnd c i (t₀ := 0) (k := 4) h04 _ (2 * b.val + e.val) (by omega) (by omega) (P := P) (vals := v0 xs c i)
    (by
      unfold v0
      rw [show bit ((2 * b.val + e.val) / 2) = b from Fin.ext (by unfold bit; dsimp only; omega),
        show bit (2 * b.val + e.val) = e from Fin.ext (by unfold bit; dsimp only; omega)]))
  isplitl [HS]; · iexact HS
  iintro HS
  iapply HQ
  isplitl [HX]; · iexact HX
  iexact HS

/-- The other half of the input, copied. -/
theorem wp_copy {Q : PUnit.{1} → sProp 𝕄} :
    iprop(xPts xs c ∗ anyOwn c ((inst i).src c 0)
        ∗ ((xPts xs c ∗ held c ((inst i).src c 0) fullShare (sent xs c i 0)) -∗ Q ⟨⟩))
      ⊢ WP c (copy (F := F) i c) Q := by
  show iprop(xPts xs c ∗ anyOwn c (sndR i 0 4 h04) ∗ ((xPts xs c ∗ held c (sndR i 0 4 h04) fullShare (v0 xs c i)) -∗ Q ⟨⟩)) ⊢ _
  unfold copy
  simp only [WP_bind]
  iintro ⟨HX, HS, HQ⟩
  ihave HS := (any_heldOn c (sndR i 0 4 h04) (v0 xs c i)) $$ HS
  iapply (wp_copy1 xs c i 0 0); isplitl [HX]; · iexact HX
  isplitl [HS]; · iexact HS
  iintro ⟨HX, HS⟩
  iapply (wp_copy1 xs c i 0 1); isplitl [HX]; · iexact HX
  isplitl [HS]; · iexact HS
  iintro ⟨HX, HS⟩
  iapply (wp_copy1 xs c i 1 0); isplitl [HX]; · iexact HX
  isplitl [HS]; · iexact HS
  iintro ⟨HX, HS⟩
  iapply (wp_copy1 xs c i 1 1); isplitl [HX]; · iexact HX
  isplitl [HS]; · iexact HS
  iintro ⟨HX, HS⟩
  iapply HQ
  isplitl [HX]; · iexact HX
  iapply (heldOn_mono c (sndR i 0 4 h04) fullShare (vals := v0 xs c i) (vals' := v0 xs c i) ?_) $$ HS
  intro t ht _
  refine ⟨?_, rfl⟩
  show t = 2 * 1 + 1 ∨ t = 2 * 1 + 0 ∨ t = 2 * 0 + 1 ∨ t = 2 * 0 + 0 ∨ False
  omega

/-! ## What a transfer needs and leaves -/

/-- The tokens a transfer is started with, and its destination. -/
def toSend (s : Fin 9) : sProp 𝕄 :=
  iprop(anyOwn (tgt i s c) ((inst i).dst c s) ∗ dutyTok ER (sCell c i s) 0 0 ∗ dutyTok ER (rCell (tgt i s c) i s) 0 0)
/-- What the wait for its arrival takes, -/
def toRecv (s : Fin 9) : sProp 𝕄 := iprop(cred (tallyAt (rCell c i s) () (amt i s)) ∗ atPos ER (rCell c i s) 0 ∅ 0)
/-- and the credit of a transfer started. -/
def sentC (s : Fin 9) : sProp 𝕄 := cred (tallyAt (sCell c i s) () (amt i s))

theorem wp_send {Q : PUnit.{1} → sProp 𝕄} (s : Fin 9) {n n' : ℕ} (hn : n = rk i s) (hn' : n' = n + 1) :
    iprop(recs xs K ∗ Shd xs c n ∗ held c ((inst i).src c s) (shr s) (sent xs c i s) ∗ toSend c i s
        ∗ ((Shd xs c n' ∗ sentC c i s) -∗ Q ⟨⟩))
      ⊢ WP c (send (F := F) i c s) Q := by
  unfold Shd toSend sentC
  iintro ⟨#HR, ⟨HO, HX⟩, Hs, ⟨Hd, Ht1, Ht2⟩, HQ⟩
  iapply (wp_snd xs K c i s hn hn')
  isplitr; · iexact HR
  isplitl [HO]; · iexact HO
  isplitl [Hs]; · iexact Hs
  isplitl [Hd]; · iexact Hd
  isplitl [Ht1]; · iexact Ht1
  isplitl [Ht2]; · iexact Ht2
  iintro ⟨Hc, HO⟩
  iapply HQ
  isplitl [HO HX]
  · isplitl [HO]; · iexact HO
    iexact HX
  · iexact Hc

theorem wp_waitR {Q : PUnit.{1} → sProp 𝕄} (s : Fin 9) (n : ℕ) (h : ∀ i' s', n ≤ rk i' s' → lvS s < lvS s') :
    iprop(recs xs K ∗ Shd xs c n ∗ toRecv c i s ∗ ((Shd xs c n ∗ semVal (rCell c i s) 0 ∗ recvPay xs c i s) -∗ Q ⟨⟩))
      ⊢ WP c (waitR (F := F) i c s) Q := by
  unfold Shd toRecv
  iintro ⟨#HR, ⟨HO, HX⟩, ⟨Hc, Hat⟩, HQ⟩
  iapply (wp_wR xs K c i s n h)
  isplitr; · iexact HR
  isplitl [HO]; · iexact HO
  isplitl [Hc]; · iexact Hc
  isplitl [Hat]; · iexact Hat
  iintro ⟨HO, Hz, Hp⟩
  iapply HQ
  isplitl [HO HX]
  · isplitl [HO]; · iexact HO
    iexact HX
  isplitl [Hz]; · iexact Hz
  iexact Hp

/-! ## After the first transfer -/

theorem bit_val (t : Fin 2) : bit t.val = t := Fin.ext (Nat.mod_eq_of_lt t.isLt)

theorem wp_ph2a {Q : PUnit.{1} → sProp 𝕄} (t : Fin 2) {P : ℕ → Prop} :
    iprop(xPts xs c ∗ held c (rcvR i 0 4 h04) fullShare (v0 xs (tgt i 0 c) i)
        ∗ heldOn c (sndR i 4 2 h42) fullShare P (v1 xs c i)
        ∗ ((xPts xs c ∗ held c (rcvR i 0 4 h04) fullShare (v0 xs (tgt i 0 c) i)
          ∗ heldOn c (sndR i 4 2 h42) fullShare (fun x => x = t.val ∨ P x) (v1 xs c i)) -∗ Q ⟨⟩))
      ⊢ WP c (ph2a i c t) Q := by
  unfold ph2a
  iintro ⟨HX, HV, HS, HQ⟩
  iapply (wp_ldX xs c i 0 1 t)
  isplitl [HX]; · iexact HX
  iintro HX
  iapply (wp_ld c (inst i).rcv (t₀ := 0) (k := 4) (P := fun _ => True) h04 _ (2 + t.val) (by omega) (by omega) trivial)
  isplitl [HV]; · iexact HV
  iintro HV
  iapply (wp_stSnd c i (t₀ := 4) (k := 2) h42 _ t.val (by omega) rfl (P := P) (vals := v1 xs c i)
    (by unfold v1; rw [bit_val]))
  isplitl [HS]; · iexact HS
  iintro HS
  iapply HQ
  isplitl [HX]; · iexact HX
  isplitl [HV]; · iexact HV
  iexact HS

theorem aAll_lo {t : ℕ} (h : t < 2) : aAll xs c i t = a2 xs c i t := if_pos h
theorem aAll_hi (t : ℕ) : aAll xs c i (2 + t) = cst (a4 xs c i t) := by
  unfold aAll; rw [if_neg (by omega), Nat.add_sub_cancel_left]

theorem wp_ph2b {Q : PUnit.{1} → sProp 𝕄} (t : Fin 2) {P : ℕ → Prop} :
    iprop(xPts xs c ∗ held c (rcvR i 0 4 h04) fullShare (v0 xs (tgt i 0 c) i)
        ∗ heldOn c (accR i) fullShare P (aAll xs c i)
        ∗ ((xPts xs c ∗ held c (rcvR i 0 4 h04) fullShare (v0 xs (tgt i 0 c) i)
          ∗ heldOn c (accR i) fullShare (fun x => x = 0 + t.val ∨ P x) (aAll xs c i)) -∗ Q ⟨⟩))
      ⊢ WP c (ph2b i c t) Q := by
  unfold ph2b
  iintro ⟨HX, HV, HS, HQ⟩
  iapply (wp_ldX xs c i 0 0 t)
  isplitl [HX]; · iexact HX
  iintro HX
  iapply (wp_ld c (inst i).rcv (t₀ := 0) (k := 4) (P := fun _ => True) h04 _ (0 + t.val) (by omega) (by omega) trivial)
  isplitl [HV]; · iexact HV
  iintro HV
  iapply (wp_stAcc c i _ (P := P) (vals := aAll xs c i)
    (by rw [Nat.zero_add, aAll_lo xs c i t.isLt]; unfold a2; rw [bit_val, Nat.zero_add]))
  isplitl [HS]; · iexact HS
  iintro HS
  iapply HQ
  isplitl [HX]; · iexact HX
  isplitl [HV]; · iexact HV
  iexact HS

/-- The second transfer is started and two groups are accumulated. -/
theorem wp_ph2 {Q : PUnit.{1} → sProp 𝕄} :
    iprop(recs xs K ∗ Shd xs c (6 + i.val) ∗ (toRecv c i 0 ∗ anyOwn c ((inst i).src c 1) ∗ toSend c i 1 ∗ anyOwn c (accR i))
        ∗ ((Shd xs c (6 + i.val + 1) ∗ (semVal (rCell c i 0) 0 ∗ sentC c i 1 ∗ anyOwn c (rcvR i 0 4 h04)
          ∗ heldOn c (accR i) fullShare (fun t => t < 2) (aAll xs c i))) -∗ Q ⟨⟩))
      ⊢ WP c (ph2 (F := F) i c) Q := by
  unfold ph2
  simp only [WP_bind]
  iintro ⟨#HR, HSh, ⟨Hw, Hs, Ht, Ha⟩, HQ⟩
  iapply (wp_waitR xs K c i 0 (6 + i.val) (by revert i; decide +kernel))
  isplitr; · iexact HR
  isplitl [HSh]; · iexact HSh
  isplitl [Hw]; · iexact Hw
  iintro ⟨HSh, Hz, HV⟩
  ihave HV := (show recvPay xs c i 0 ⊢ held (F := F) c (rcvR i 0 4 h04) fullShare (v0 xs (tgt i 0 c) i) from BI.Entails.refl _) $$ HV
  ihave Hs := (show anyOwn (F := F) c ((inst i).src c 1) ⊢ heldOn c (sndR i 4 2 h42) fullShare (fun _ => False) (v1 xs c i) from any_heldOn c _ _) $$ Hs
  ihave Ha := (any_heldOn c (accR i) (aAll xs c i)) $$ Ha
  unfold Shd
  icases HSh with ⟨HO, HX⟩
  iapply (wp_ph2a xs c i 0)
  isplitl [HX]; · iexact HX
  isplitl [HV]; · iexact HV
  isplitl [Hs]; · iexact Hs
  iintro ⟨HX, HV, Hs⟩
  iapply (wp_ph2a xs c i 1)
  isplitl [HX]; · iexact HX
  isplitl [HV]; · iexact HV
  isplitl [Hs]; · iexact Hs
  iintro ⟨HX, HV, Hs⟩
  iapply (wp_send xs K c i 1 (n := 6 + i.val) rfl rfl)
  unfold Shd
  isplitr; · iexact HR
  isplitl [HO HX]
  · isplitl [HO]; · iexact HO
    iexact HX
  isplitl [Hs]
  · iapply (heldOn_mono c (sndR i 4 2 h42) fullShare (vals := v1 xs c i) (vals' := v1 xs c i) ?_) $$ Hs
    intro t ht _; exact ⟨show t = 1 ∨ t = 0 ∨ False by omega, rfl⟩
  isplitl [Ht]; · iexact Ht
  iintro ⟨⟨HO, HX⟩, Hc⟩
  iapply (wp_ph2b xs c i 0)
  isplitl [HX]; · iexact HX
  isplitl [HV]; · iexact HV
  isplitl [Ha]; · iexact Ha
  iintro ⟨HX, HV, Ha⟩
  iapply (wp_ph2b xs c i 1)
  isplitl [HX]; · iexact HX
  isplitl [HV]; · iexact HV
  isplitl [Ha]; · iexact Ha
  iintro ⟨HX, HV, Ha⟩
  iapply HQ
  isplitl [HO HX]
  · isplitl [HO]; · iexact HO
    iexact HX
  isplitl [Hz]; · iexact Hz
  isplitl [Hc]; · iexact Hc
  isplitl [HV]; · iapply (heldOn_any c (rcvR i 0 4 h04)); iexact HV
  iapply (heldOn_mono c (accR i) fullShare (vals := aAll xs c i) (vals' := aAll xs c i) ?_) $$ Ha
  intro t ht h2; exact ⟨show t = 0 + 1 ∨ t = 0 + 0 ∨ False by omega, rfl⟩

/-! ## After the second transfer -/

theorem wp_ph3a {Q : PUnit.{1} → sProp 𝕄} (t : Fin 2) {P P' : ℕ → Prop} (hP : P t.val) :
    iprop(held c (rcvR i 4 2 h42) fullShare (v1 xs (tgt i 1 c) i)
        ∗ heldOn c (accR i) fullShare P (aAll xs c i) ∗ heldOn c (sndR i 6 2 h62) fullShare P' (v2 xs c i)
        ∗ ((held c (rcvR i 4 2 h42) fullShare (v1 xs (tgt i 1 c) i)
          ∗ heldOn c (accR i) fullShare (fun x => x = 2 + t.val ∨ P x) (aAll xs c i)
          ∗ heldOn c (sndR i 6 2 h62) fullShare (fun x => x = 1 - t.val ∨ P' x) (v2 xs c i)) -∗ Q ⟨⟩))
      ⊢ WP c (ph3a (F := F) i t) Q := by
  have h4 : acc2 (aAll xs c i t.val) (v1 xs (tgt i 1 c) i t.val) = a4 xs c i t.val := by
    rw [aAll_lo xs c i t.isLt]; rfl
  unfold ph3a
  iintro ⟨HV, HA, HS, HQ⟩
  iapply (wp_ld c (inst i).acc (t₀ := 0) (k := 4) _ _ t.val (by omega) rfl hP)
  isplitl [HA]; · iexact HA
  iintro HA
  iapply (wp_ld c (inst i).rcv (t₀ := 4) (k := 2) (P := fun _ => True) h42 _ t.val (by omega) (by omega) trivial)
  isplitl [HV]; · iexact HV
  iintro HV
  rw [h4, WP_bind]
  iapply (wp_stAcc c i _ (P := P) (vals := aAll xs c i) (aAll_hi xs c i t.val).symm)
  isplitl [HA]; · iexact HA
  iintro HA
  iapply (wp_stSnd c i (t₀ := 6) (k := 2) h62 _ (1 - t.val) (by omega) (by omega) (P := P') (vals := v2 xs c i)
    (by unfold v2; rw [show 1 - (1 - t.val) = t.val by omega]))
  isplitl [HS]; · iexact HS
  iintro HS
  iapply HQ
  isplitl [HV]; · iexact HV
  isplitl [HA]; · iexact HA
  iexact HS

/-- The third transfer is started; the accumulator holds the sums of four too. -/
theorem wp_ph3 {Q : PUnit.{1} → sProp 𝕄} :
    iprop(recs xs K ∗ Shd xs c (12 + i.val) ∗ (toRecv c i 1 ∗ anyOwn c ((inst i).src c 2) ∗ toSend c i 2
          ∗ heldOn c (accR i) fullShare (fun t => t < 2) (aAll xs c i))
        ∗ ((Shd xs c (12 + i.val + 1) ∗ (semVal (rCell c i 1) 0 ∗ sentC c i 2 ∗ anyOwn c (rcvR i 4 2 h42)
          ∗ held c (accR i) fullShare (aAll xs c i))) -∗ Q ⟨⟩))
      ⊢ WP c (ph3 (F := F) i c) Q := by
  unfold ph3
  simp only [WP_bind]
  iintro ⟨#HR, HSh, ⟨Hw, Hs, Ht, Ha⟩, HQ⟩
  iapply (wp_waitR xs K c i 1 (12 + i.val) (by revert i; decide +kernel))
  isplitr; · iexact HR
  isplitl [HSh]; · iexact HSh
  isplitl [Hw]; · iexact Hw
  iintro ⟨HSh, Hz, HV⟩
  ihave HV := (show recvPay xs c i 1 ⊢ held (F := F) c (rcvR i 4 2 h42) fullShare (v1 xs (tgt i 1 c) i) from BI.Entails.refl _) $$ HV
  ihave Hs := (show anyOwn (F := F) c ((inst i).src c 2) ⊢ heldOn c (sndR i 6 2 h62) fullShare (fun _ => False) (v2 xs c i) from any_heldOn c _ _) $$ Hs
  iapply (wp_ph3a xs c i 0 (P := fun t => t < 2) (show (0 : Fin 2).val < 2 by decide))
  isplitl [HV]; · iexact HV
  isplitl [Ha]; · iexact Ha
  isplitl [Hs]; · iexact Hs
  iintro ⟨HV, Ha, Hs⟩
  iapply (wp_ph3a xs c i 1 (P := fun t => t = 2 + (0 : Fin 2).val ∨ t < 2) (show (1 : Fin 2).val = 2 + (0 : Fin 2).val ∨ (1 : Fin 2).val < 2 by decide))
  isplitl [HV]; · iexact HV
  isplitl [Ha]; · iexact Ha
  isplitl [Hs]; · iexact Hs
  iintro ⟨HV, Ha, Hs⟩
  iapply (wp_send xs K c i 2 (n := 12 + i.val) rfl rfl)
  isplitr; · iexact HR
  isplitl [HSh]; · iexact HSh
  isplitl [Hs]
  · iapply (heldOn_mono c (sndR i 6 2 h62) fullShare (vals := v2 xs c i) (vals' := v2 xs c i) ?_) $$ Hs
    intro t ht _; exact ⟨show t = 1 - 1 ∨ t = 1 - 0 ∨ False by omega, rfl⟩
  isplitl [Ht]; · iexact Ht
  iintro ⟨HSh, Hc⟩
  iapply HQ
  isplitl [HSh]; · iexact HSh
  isplitl [Hz]; · iexact Hz
  isplitl [Hc]; · iexact Hc
  isplitl [HV]; · iapply (heldOn_any c (rcvR i 4 2 h42)); iexact HV
  iapply (heldOn_mono c (accR i) fullShare (vals := aAll xs c i) (vals' := aAll xs c i) ?_) $$ Ha
  intro t ht _; exact ⟨show t = 2 + 1 ∨ t = 2 + 0 ∨ t < 2 by omega, rfl⟩

/-! ## After the third transfer -/

/-- Two finished groups are stored, and sent on at half a share each. -/
theorem wp_ph4 {Q : PUnit.{1} → sProp 𝕄} :
    iprop(recs xs K ∗ Shd xs c (18 + 2 * i.val) ∗ (toRecv c i 2 ∗ toSend c i 3 ∗ toSend c i 4
          ∗ held c (accR i) fullShare (aAll xs c i) ∗ anyOwn c (oM i (grp i c 0 0 0)) ∗ anyOwn c (oM i (grp i c 0 0 1)))
        ∗ ((Shd xs c (18 + 2 * i.val + 2) ∗ (semVal (rCell c i 2) 0 ∗ sentC c i 3 ∗ sentC c i 4 ∗ anyOwn c (rcvR i 6 2 h62) ∗ anyOwn c (accR i)
          ∗ held c (oM i (grp i c 0 0 0)) fullShare.right (fun _ => fin8 xs c i 0) ∗ held c (oM i (grp i c 0 0 1)) fullShare.right (fun _ => fin8 xs c i 1))) -∗ Q ⟨⟩))
      ⊢ WP c (ph4 (F := F) i c) Q := by
  unfold ph4
  rw [WP_bind]
  iintro ⟨#HR, HSh, ⟨Hw, Ht3, Ht4, Ha, Ho0, Ho1⟩, HQ⟩
  iapply (wp_waitR xs K c i 2 (18 + 2 * i.val) (by revert i; decide +kernel))
  isplitr; · iexact HR
  isplitl [HSh]; · iexact HSh
  isplitl [Hw]; · iexact Hw
  iintro ⟨HSh, Hz, HV⟩
  ihave HV := (show recvPay xs c i 2 ⊢ held (F := F) c (rcvR i 6 2 h62) fullShare (v2 xs (tgt i 2 c) i) from BI.Entails.refl _) $$ HV
  iapply (wp_ld c (inst i).acc (t₀ := 0) (k := 4) (P := fun _ => True) _ _ (2 + 0) (by omega) (by omega) trivial)
  isplitl [Ha]; · iexact Ha
  iintro Ha
  iapply (wp_ld c (inst i).rcv (t₀ := 6) (k := 2) (P := fun _ => True) h62 _ 0 (by omega) (by omega) trivial)
  isplitl [HV]; · iexact HV
  iintro HV
  iapply (wp_ld c (inst i).acc (t₀ := 0) (k := 4) (P := fun _ => True) _ _ (2 + 1) (by omega) (by omega) trivial)
  isplitl [Ha]; · iexact Ha
  iintro Ha
  iapply (wp_ld c (inst i).rcv (t₀ := 6) (k := 2) (P := fun _ => True) h62 _ 1 (by omega) (by omega) trivial)
  isplitl [HV]; · iexact HV
  iintro HV
  rw [show rnd (acc2 (aAll xs c i (2 + 0)) (v2 xs (tgt i 2 c) i 0)) = fin8 xs c i 0 from rfl,
    show rnd (acc2 (aAll xs c i (2 + 1)) (v2 xs (tgt i 2 c) i 1)) = fin8 xs c i 1 from rfl]
  simp only [WP_bind]
  iapply (wp_stOut c i 0 (fin8 xs c i 0))
  isplitl [Ho0]; · iexact Ho0
  iintro Ho0
  iapply (wp_stOut c i 1 (fin8 xs c i 1))
  isplitl [Ho1]; · iexact Ho1
  iintro Ho1
  ihave H0 := (heldOn_halve c (oM i (grp i c 0 0 0)) _ _) $$ Ho0
  icases H0 with ⟨H0l, H0r⟩
  ihave H1 := (heldOn_halve c (oM i (grp i c 0 0 1)) _ _) $$ Ho1
  icases H1 with ⟨H1l, H1r⟩
  iapply (wp_send xs K c i 3 (n := 18 + 2 * i.val) rfl rfl)
  isplitr; · iexact HR
  isplitl [HSh]; · iexact HSh
  isplitl [H0l]; · rw [src3]; iexact H0l
  isplitl [Ht3]; · iexact Ht3
  iintro ⟨HSh, Hc3⟩
  iapply (wp_send xs K c i 4 (n := 18 + 2 * i.val + 1) (show 18 + 2 * i.val + 1 = 19 + 2 * i.val by omega) rfl)
  isplitr; · iexact HR
  isplitl [HSh]; · iexact HSh
  isplitl [H1l]; · rw [src4]; iexact H1l
  isplitl [Ht4]; · iexact Ht4
  iintro ⟨HSh, Hc4⟩
  iapply HQ
  isplitl [HSh]; · iexact HSh
  isplitl [Hz]; · iexact Hz
  isplitl [Hc3]; · iexact Hc3
  isplitl [Hc4]; · iexact Hc4
  isplitl [HV]; · iapply (heldOn_any c (rcvR i 6 2 h62)); iexact HV
  isplitl [Ha]; · iapply (heldOn_any c (accR i)); iexact Ha
  isplitl [H0r]; · iexact H0r
  iexact H1r

/-! ## After the fourth -/

/-- Two finished groups have arrived; they and the part's own two are sent on. -/
theorem wp_ph5 {Q : PUnit.{1} → sProp 𝕄} :
    iprop(recs xs K ∗ Shd xs c (30 + 4 * i.val) ∗ (toRecv c i 3 ∗ toRecv c i 4 ∗ toSend c i 5 ∗ toSend c i 6 ∗ toSend c i 7 ∗ toSend c i 8
          ∗ held c (oM i (grp i c 0 0 0)) fullShare.right (fun _ => fin8 xs c i 0) ∗ held c (oM i (grp i c 0 0 1)) fullShare.right (fun _ => fin8 xs c i 1))
        ∗ ((Shd xs c (30 + 4 * i.val + 4) ∗ (semVal (rCell c i 3) 0 ∗ semVal (rCell c i 4) 0 ∗ sentC c i 5 ∗ sentC c i 6 ∗ sentC c i 7 ∗ sentC c i 8)) -∗ Q ⟨⟩))
      ⊢ WP c (ph5 (F := F) i c) Q := by
  unfold ph5
  simp only [WP_bind]
  iintro ⟨#HR, HSh, ⟨Hw3, Hw4, Ht5, Ht6, Ht7, Ht8, H0, H1⟩, HQ⟩
  iapply (wp_waitR xs K c i 3 (30 + 4 * i.val) (by revert i; decide +kernel))
  isplitr; · iexact HR
  isplitl [HSh]; · iexact HSh
  isplitl [Hw3]; · iexact Hw3
  iintro ⟨HSh, Hz3, H2⟩
  iapply (wp_waitR xs K c i 4 (30 + 4 * i.val) (by revert i; decide +kernel))
  isplitr; · iexact HR
  isplitl [HSh]; · iexact HSh
  isplitl [Hw4]; · iexact Hw4
  iintro ⟨HSh, Hz4, H3⟩
  iapply (wp_send xs K c i 5 (n := 30 + 4 * i.val) rfl rfl)
  isplitr; · iexact HR
  isplitl [HSh]; · iexact HSh
  isplitl [H0]; · rw [src5]; iexact H0
  isplitl [Ht5]; · iexact Ht5
  iintro ⟨HSh, Hc5⟩
  iapply (wp_send xs K c i 6 (n := 30 + 4 * i.val + 1) (show 30 + 4 * i.val + 1 = 31 + 4 * i.val by omega) rfl)
  isplitr; · iexact HR
  isplitl [HSh]; · iexact HSh
  isplitl [H1]; · rw [src6]; iexact H1
  isplitl [Ht6]; · iexact Ht6
  iintro ⟨HSh, Hc6⟩
  iapply (wp_send xs K c i 7 (n := 30 + 4 * i.val + 2) (show 30 + 4 * i.val + 2 = 32 + 4 * i.val by omega) rfl)
  isplitr; · iexact HR
  isplitl [HSh]; · iexact HSh
  isplitl [H2]; · rw [src7]; unfold recvPay; rw [dst3, grp_tgt3]; iexact H2
  isplitl [Ht7]; · iexact Ht7
  iintro ⟨HSh, Hc7⟩
  iapply (wp_send xs K c i 8 (n := 30 + 4 * i.val + 3) (show 30 + 4 * i.val + 3 = 33 + 4 * i.val by omega) rfl)
  isplitr; · iexact HR
  isplitl [HSh]; · iexact HSh
  isplitl [H3]; · rw [src8]; unfold recvPay; rw [dst4, grp_tgt4]; iexact H3
  isplitl [Ht8]; · iexact Ht8
  iintro ⟨HSh, Hc8⟩
  iapply HQ
  isplitl [HSh]; · iexact HSh
  isplitl [Hz3]; · iexact Hz3
  isplitl [Hz4]; · iexact Hz4
  isplitl [Hc5]; · iexact Hc5
  isplitl [Hc6]; · iexact Hc6
  isplitl [Hc7]; · iexact Hc7
  iexact Hc8

end Rules

end Cert.KernelIdeal.AR

end
-- ==== Proof.Stages.lean ====
/-
# The body

The barrier, and the phases one after another: what the whole body takes and leaves.
-/
module

public import proofs.«01_k».proof.Proof.Phases

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → (X).view.ty.Contents (Elt F)) (K : Dev nD × Kd → ℕ)

/-! ## Lists -/

omit [FloatOps F] in
theorem bigSepL_sep {ι : Type} (l : List ι) (Φ Ψ : ι → sProp 𝕄) :
    bigSepL l (fun i => iprop(Φ i ∗ Ψ i)) = iprop(bigSepL l Φ ∗ bigSepL l Ψ) := by
  induction l with
  | nil => exact (equiv_iff.mp emp_sep).symm
  | cons i l ih =>
    rw [bigSepL_cons', bigSepL_cons', bigSepL_cons', ih]
    show BI.sep (BI.sep (Φ i) (Ψ i)) (BI.sep (bigSepL l Φ) (bigSepL l Ψ)) = BI.sep (BI.sep (Φ i) (bigSepL l Φ)) (BI.sep (Ψ i) (bigSepL l Ψ))
    ac_rfl

omit [FloatOps F] in
theorem bigSepL_two {ι : Type} (i j : ι) (l : List ι) (Φ : ι → sProp 𝕄) :
    bigSepL (i :: j :: l) Φ = iprop(Φ i ∗ bigSepL (j :: l) Φ) := rfl

/-- The transfers. -/
abbrev all9 : List (Fin 9) := [0, 1, 2, 3, 4, 5, 6, 7, 8]

omit [FloatOps F] in
theorem bigSep_parts (Φ : Fin 6 → sProp 𝕄) : bigSep Finset.univ Φ = bigSepL all6 Φ :=
  bigSep_univ_eq_bigSepL all6 (by decide) (by decide) Φ
omit [FloatOps F] in
theorem bigSep_transfers (Φ : Fin 6 → Fin 9 → sProp 𝕄) :
    (bigSep Finset.univ fun p : Fin 6 × Fin 9 => Φ p.1 p.2) = bigSepL all6 fun i => bigSepL all9 (Φ i) := by
  rw [bigSep_univ_prod, bigSep_parts]
  congr 1; funext i
  exact bigSep_univ_eq_bigSepL all9 (by decide) (by decide) (Φ i)

omit [FloatOps F] in
theorem bigSepL_halves (Φ : Fin 6 → sProp 𝕄) : bigSepL all6 Φ = iprop(bigSepL [0, 1, 2] Φ ∗ bigSepL [3, 4, 5] Φ) :=
  bigSepL_append [0, 1, 2] [3, 4, 5] Φ

section Body

variable (c : Dev nD)

/-! ## The barrier -/

/-- Signal a neighbour, handing it the regions its transfers to `c` write. -/
theorem wp_sig {Q : PUnit.{1} → sProp 𝕄} (d : Fin 3) (p : Dev nD) (hp : p = nbr d c) (O' : CellTallies nD τ sig Unit) :
    iprop(recs xs K ∗ (∃ W, owes (c : Thread nD τ) (O' + tallyAt (bCell (nbr d c)) () 1) W) ∗ dutyTok ER (bCell (nbr d c)) 0 d ∗ barPay (nbr d c) d
        ∗ ((∃ W, owes (c : Thread nD τ) O' W) -∗ Q ⟨⟩))
      ⊢ WP c (semSignalWord p bSem 1#32 : PR F) Q := by
  subst hp
  simp only [semSignalWord, Prog.lift]
  iintro ⟨#HR, ⟨%W, HO⟩, Ht, Hp, HQ⟩
  iapply (Rounds.wp_signal 𝒱₀ ER (sched xs) (c : Thread nD τ) none (dst := (nbr d c : Thread nD τ)) (sem := bSem) (κ := K (nbr d c, none)) (r := 0)
      (d := d) (by rw [show ((nbr d c : Thread nD τ), SemLoc.reg bSem) = kcell (nbr d c, none) from rfl, duties_at]; exact Finset.mem_univ _)
      ((amount_at xs (nbr d c) none 0 d).trans (by decide)) () O' rfl) $$ [HO Ht Hp]
  · isplitr; · iapply (recs_inv xs K (nbr d c, none)); iexact HR
    isplitl [HO]; · iexact HO
    isplitl [Ht]; · iexact Ht
    isplitl [Hp]
    · rw [show ((nbr d c : Thread nD τ), SemLoc.reg bSem) = kcell (nbr d c, none) from rfl, payload_at]
      iapply (show barPay (F := F) (nbr d c) d ⊢ payOf xs (nbr d c) d (some none) from BI.Entails.refl _)
      iexact Hp
    iapply (recs_reached xs K (nbr d c, none)); iexact HR
  iintro HO
  rw [wp_ret]; imodintro
  iapply HQ
  iexists W; iexact HO

/-- The regions the transfers from `c` write, -/
def lands : sProp 𝕄 := bigSep Finset.univ fun p : Fin 6 × Fin 9 => anyOwn (tgt p.1 p.2 c) ((inst p.1).dst c p.2)
/-- and those that the transfers to `c` write. -/
def lent : sProp 𝕄 := bigSep Finset.univ fun p : Fin 6 × Fin 9 => anyOwn c ((inst p.1).dst (tgt p.1 p.2 c) p.2)

/-- Wait for the three neighbours: they hand over the regions that transfers from `c` write. -/
theorem wp_gate {Q : PUnit.{1} → sProp 𝕄} :
    iprop(recs xs K ∗ owesN c 0 ∗ cred (tallyAt (bCell c) () 3) ∗ atPos ER (bCell c) 0 ∅ 0
        ∗ ((owesN c 0 ∗ semVal (bCell c) 0 ∗ lands c) -∗ Q ⟨⟩))
      ⊢ WP c (semWaitWord bSem 3#32 : PR F) Q := by
  unfold owesN
  simp only [semWaitWord, Prog.lift]
  iintro ⟨#HR, ⟨%W, HO⟩, Hc, Hat, HQ⟩
  iapply (Rounds.wp_wait_rest_token 𝒱₀ ER (sched xs) (c : Thread nD τ) none (κ := K (c, none))
      (wpE_semWait_eq 𝒱₀ (c : Thread nD τ) none Set.univ) (Set.mem_univ _) () (O := Ow c 0) (W := W) (R := 0) (m := 0) (T := ∅)
      (by rw [show ((c : Thread nD τ), SemLoc.reg bSem) = bCell c from rfl, expect_bar]; decide)) $$ [HO Hc Hat]
  · isplitr; · iapply (recs_inv xs K (c, none)); iexact HR
    isplitl [Hc]; · iexact Hc
    isplitl [HO]; · iexact HO
    isplitr
    · iapply (mayWait_of c (csem none) 0 (by rw [kindOf_csem]; exact fun _ s _ => (show ∀ s, 1 < lvS s by decide) s))
      iapply (recs_lev xs K); iexact HR
    iexact Hat
  iintro ⟨HO, Hat, -, Hpay⟩
  ihave Hp := (show (bigSep ((sched (F := F) xs).duties ((c : Thread nD τ), .reg bSem) 0 \ ∅)
    (fun d => (sched (F := F) xs).payload ((c : Thread nD τ), .reg bSem) 0 d) : sProp 𝕄) ⊢ lands c from
      Entails.of_eq (rest_bar xs c)) $$ Hpay
  rw [wp_ret]
  imod (Rounds.cell_close ER (sched xs) (Set.mem_univ (K (c, none))) (fun h => h) (R := 0 + 1) (duties_later xs (bCell c))) $$ [Hat] with Hz
  · isplitr; · iapply (recs_inv xs K (c, none)); iexact HR
    iexact Hat
  imodintro
  iapply HQ
  isplitl [HO]; · iexists _; iexact HO
  isplitl [Hz]; · iexact Hz
  iexact Hp

omit [FloatOps F] in
/-- What is lent goes out over the three directions. -/
theorem lent_split : lent (F := F) c ⊢ iprop(barPay (nbr 0 c) 0 ∗ barPay (nbr 1 c) 1 ∗ barPay (nbr 2 c) 2) := by
  unfold lent
  rw [bigSep_fiberwise Finset.univ (fun p : Fin 6 × Fin 9 => dirOf p.1 p.2),
    show (Finset.univ.image fun p : Fin 6 × Fin 9 => dirOf p.1 p.2) = Finset.univ by decide,
    bigSep_univ_eq_bigSepL [0, 1, 2] (by decide) (by decide), bigSepL_cons', bigSepL_cons', bigSepL_singleton]
  have h : ∀ d : Fin 3, (bigSep (Finset.univ.filter fun p : Fin 6 × Fin 9 => dirOf p.1 p.2 = d)
      fun p => anyOwn (F := F) c ((inst p.1).dst (tgt p.1 p.2 c) p.2)) = barPay (nbr d c) d := fun d => by
    unfold barPay
    refine bigSep_congr fun p hp => ?_
    rw [← (Finset.mem_filter.mp hp).2, ← tgt_eq, tgt_tgt]
  rw [h, h, h]

/-! ## The stages -/

/-- A step at each part. -/
theorem wp_parts (f : Fin 6 → PR F) (pos : Fin 6 → ℕ) (δ : ℕ) (A B : Fin 6 → sProp 𝕄)
    (hstep : ∀ i (Q : PUnit.{1} → sProp 𝕄), iprop(recs xs K ∗ Shd xs c (pos i) ∗ A i ∗ ((Shd xs c (pos i + δ) ∗ B i) -∗ Q ⟨⟩)) ⊢ WP c (f i) Q)
    (l : List (Fin 6)) (n n' : ℕ) (hn : n' = n + δ * l.length) (hpos : ∀ j (h : j < l.length), pos l[j] = n + δ * j) (Q : PUnit.{1} → sProp 𝕄) :
    iprop(recs xs K ∗ Shd xs c n ∗ bigSepL l A ∗ ((Shd xs c n' ∗ bigSepL l B) -∗ Q ⟨⟩)) ⊢ WP c (seq l f) Q := by
  subst hn
  iintro ⟨#HR, HS, HA, HQ⟩
  iapply (wp_seq c f pos δ (fun n => iprop(recs xs K ∗ Shd xs c n)) A B (fun i Q => by
    iintro ⟨⟨#HR, HS⟩, HA, HQ⟩
    iapply (hstep i Q)
    isplitr; · iexact HR
    isplitl [HS]; · iexact HS
    isplitl [HA]; · iexact HA
    iintro ⟨HS, HB⟩
    iapply HQ
    isplitl [HS]
    · isplitr; · iexact HR
      iexact HS
    · iexact HB) l n hpos Q)
  isplitl [HS]
  · isplitr; · iexact HR
    iexact HS
  isplitl [HA]; · iexact HA
  iintro ⟨⟨-, HS⟩, HB⟩
  iapply HQ
  isplitl [HS]; · iexact HS
  iexact HB

/-- Waits of one part, at the end. -/
theorem wp_waitRs (i : Fin 6) : ∀ (l : List (Fin 9)) (Q : PUnit.{1} → sProp 𝕄),
    iprop(recs xs K ∗ Shd xs c 54 ∗ bigSepL l (toRecv c i)
        ∗ ((Shd xs c 54 ∗ bigSepL l fun s => iprop(semVal (rCell c i s) 0 ∗ recvPay xs c i s)) -∗ Q ⟨⟩)) ⊢ WP c (seq l fun s => waitR (F := F) i c s) Q
  | [], Q => by
    show _ ⊢ WP c (.ret ⟨⟩) Q
    iintro ⟨-, HS, HA, HQ⟩
    rw [WP_ret]; imodintro
    iapply HQ
    isplitl [HS]; · iexact HS
    iexact HA
  | s :: l, Q => by
    show _ ⊢ WP c (waitR (F := F) i c s >>= fun _ => seq l fun s => waitR (F := F) i c s) Q
    rw [WP_bind, bigSepL_cons', bigSepL_cons']
    iintro ⟨#HR, HS, ⟨Ha, HA⟩, HQ⟩
    iapply (wp_waitR xs K c i s 54 (fun i' s' h => absurd ((show ∀ i s, rk i s < 54 by decide +kernel) i' s') (by omega)))
    isplitr; · iexact HR
    isplitl [HS]; · iexact HS
    isplitl [Ha]; · iexact Ha
    iintro ⟨HS, Hz, Hp⟩
    iapply (wp_waitRs i l Q)
    isplitr; · iexact HR
    isplitl [HS]; · iexact HS
    isplitl [HA]; · iexact HA
    iintro ⟨HS, HB⟩
    iapply HQ
    isplitl [HS]; · iexact HS
    isplitl [Hz Hp]
    · isplitl [Hz]; · iexact Hz
      iexact Hp
    iexact HB

/-- What the wait for a transfer's leaving takes. -/
def toLeave (i : Fin 6) (s : Fin 9) : sProp 𝕄 := iprop(sentC c i s ∗ atPos ER (sCell c i s) 0 ∅ 0)

theorem wp_waitS (i : Fin 6) (s : Fin 9) (Q : PUnit.{1} → sProp 𝕄) :
    iprop(recs xs K ∗ Shd xs c 54 ∗ toLeave c i s ∗ ((Shd xs c 54 ∗ semVal (sCell c i s) 0 ∗ sendPay xs c i s) -∗ Q ⟨⟩)) ⊢ WP c (waitS (F := F) i c s) Q := by
  unfold Shd toLeave sentC
  iintro ⟨#HR, ⟨HO, HX⟩, ⟨Hc, Hat⟩, HQ⟩
  iapply (wp_wS xs K c i s 54)
  isplitr; · iexact HR
  isplitl [HO]; · iexact HO
  isplitl [Hc]; · iexact Hc
  isplitl [Hat]; · iexact Hat
  iintro ⟨HO, Hz, Hp⟩
  iapply HQ
  isplitl [HO HX]
  · isplitl [HO]; · iexact HO
    iexact HX
  isplitl [Hz]; · iexact Hz
  iexact Hp

theorem wp_waitSs (i : Fin 6) : ∀ (l : List (Fin 9)) (Q : PUnit.{1} → sProp 𝕄),
    iprop(recs xs K ∗ Shd xs c 54 ∗ bigSepL l (toLeave c i)
        ∗ ((Shd xs c 54 ∗ bigSepL l fun s => iprop(semVal (sCell c i s) 0 ∗ sendPay xs c i s)) -∗ Q ⟨⟩)) ⊢ WP c (seq l fun s => waitS (F := F) i c s) Q
  | [], Q => by
    show _ ⊢ WP c (.ret ⟨⟩) Q
    iintro ⟨-, HS, HA, HQ⟩
    rw [WP_ret]; imodintro
    iapply HQ
    isplitl [HS]; · iexact HS
    iexact HA
  | s :: l, Q => by
    show _ ⊢ WP c (waitS (F := F) i c s >>= fun _ => seq l fun s => waitS (F := F) i c s) Q
    rw [WP_bind, bigSepL_cons', bigSepL_cons']
    iintro ⟨#HR, HS, ⟨Ha, HA⟩, HQ⟩
    iapply (wp_waitS xs K c i s)
    isplitr; · iexact HR
    isplitl [HS]; · iexact HS
    isplitl [Ha]; · iexact Ha
    iintro ⟨HS, Hz, Hp⟩
    iapply (wp_waitSs i l Q)
    isplitr; · iexact HR
    isplitl [HS]; · iexact HS
    isplitl [HA]; · iexact HA
    iintro ⟨HS, HB⟩
    iapply HQ
    isplitl [HS]; · iexact HS
    isplitl [Hz Hp]
    · isplitl [Hz]; · iexact Hz
      iexact Hp
    iexact HB

theorem wp_copySend (i : Fin 6) (Q : PUnit.{1} → sProp 𝕄) :
    iprop(recs xs K ∗ Shd xs c i.val ∗ (anyOwn c ((inst i).src c 0) ∗ toSend c i 0) ∗ ((Shd xs c (i.val + 1) ∗ sentC c i 0) -∗ Q ⟨⟩))
      ⊢ WP c (copySend (F := F) i c) Q := by
  unfold copySend
  rw [WP_bind]
  unfold Shd
  iintro ⟨#HR, ⟨HO, HX⟩, ⟨Hs, Ht⟩, HQ⟩
  iapply (wp_copy xs c i)
  isplitl [HX]; · iexact HX
  isplitl [Hs]; · iexact Hs
  iintro ⟨HX, Hs⟩
  iapply (wp_send xs K c i 0 (n := i.val) rfl rfl)
  unfold Shd
  isplitr; · iexact HR
  isplitl [HO HX]
  · isplitl [HO]; · iexact HO
    iexact HX
  isplitl [Hs]; · iexact Hs
  isplitl [Ht]; · iexact Ht
  iexact HQ

/-! ## The whole -/

/-- A part's own regions. -/
def partPre (i : Fin 6) : sProp 𝕄 :=
  iprop(anyOwn c ((inst i).src c 0) ∗ anyOwn c ((inst i).src c 1) ∗ anyOwn c ((inst i).src c 2) ∗ anyOwn c (accR i)
    ∗ anyOwn c (oM i (grp i c 0 0 0)) ∗ anyOwn c (oM i (grp i c 0 0 1)))

/-- The tokens of all transfers. -/
def sendToks : sProp 𝕄 := bigSep Finset.univ fun p : Fin 6 × Fin 9 => iprop(dutyTok ER (sCell c p.1 p.2) 0 0 ∗ dutyTok ER (rCell (tgt p.1 p.2 c) p.1 p.2) 0 0)
def recvToks : sProp 𝕄 := bigSep Finset.univ fun p : Fin 6 × Fin 9 => toRecv c p.1 p.2
def leavePos : sProp 𝕄 := bigSep Finset.univ fun p : Fin 6 × Fin 9 => atPos ER (sCell c p.1 p.2) 0 ∅ 0

/-- What the body takes, -/
def bodyStart : sProp 𝕄 :=
  iprop((∃ W, owes (c : Thread nD τ) (Ow₀ c) W) ∗ xPts xs c ∗ bigSepL all6 (partPre c) ∗ lent c
    ∗ (dutyTok ER (bCell (nbr 0 c)) 0 0 ∗ dutyTok ER (bCell (nbr 1 c)) 0 1 ∗ dutyTok ER (bCell (nbr 2 c)) 0 2
      ∗ cred (tallyAt (bCell c) () 3) ∗ atPos ER (bCell c) 0 ∅ 0)
    ∗ sendToks c ∗ recvToks c ∗ leavePos c)

/-- The value of group `a b e` of a part, seen from `c`: what the device there finished. -/
def outV (i : Fin 6) (a b e : Fin 2) : Blk F (inst i).rc .bf16 := fin8 xs (grp i c a b 0) i e.val

/-- A group of the result, held. -/
abbrev outH (i : Fin 6) (a b e : Fin 2) : sProp 𝕄 := held c (oM i (grp i c a b e)) fullShare fun _ => outV xs c i a b e

/-- What is left of a part. -/
def partPost (i : Fin 6) : sProp 𝕄 :=
  iprop((bigSepL all9 fun s => semVal (rCell c i s) 0) ∗ (bigSepL all9 fun s => semVal (sCell c i s) 0)
    ∗ (anyOwn c ((inst i).src c 0) ∗ anyOwn c ((inst i).src c 1) ∗ anyOwn c ((inst i).src c 2))
    ∗ (anyOwn c (rcvR i 0 4 h04) ∗ anyOwn c (rcvR i 4 2 h42) ∗ anyOwn c (rcvR i 6 2 h62)) ∗ anyOwn c (accR i)
    ∗ outH xs c i 0 0 0 ∗ outH xs c i 0 0 1 ∗ outH xs c i 0 1 0 ∗ outH xs c i 0 1 1
    ∗ outH xs c i 1 0 0 ∗ outH xs c i 1 0 1 ∗ outH xs c i 1 1 0 ∗ outH xs c i 1 1 1)

/-- and leaves. -/
def bodyEnd : sProp 𝕄 :=
  iprop((∃ W, owes (c : Thread nD τ) 0 W) ∗ xPts xs c ∗ semVal (bCell c) 0 ∗ bigSepL all6 (partPost xs c))

/-- What the waits bring back makes up a part's end. -/
theorem part_end (i : Fin 6) :
    iprop((semVal (rCell c i 0) 0 ∗ semVal (rCell c i 1) 0 ∗ semVal (rCell c i 2) 0 ∗ semVal (rCell c i 3) 0 ∗ semVal (rCell c i 4) 0)
        ∗ (anyOwn c (rcvR i 0 4 h04) ∗ anyOwn c (rcvR i 4 2 h42) ∗ anyOwn c (rcvR i 6 2 h62) ∗ anyOwn c (accR i))
        ∗ (bigSepL [5, 6, 7, 8] fun s => iprop(semVal (rCell c i s) 0 ∗ recvPay xs c i s))
        ∗ (semVal (sCell c i 0) 0 ∗ sendPay xs c i 0) ∗ (semVal (sCell c i 1) 0 ∗ sendPay xs c i 1) ∗ (semVal (sCell c i 2) 0 ∗ sendPay xs c i 2)
        ∗ (bigSepL [3, 4] fun s => iprop(semVal (sCell c i s) 0 ∗ sendPay xs c i s))
        ∗ (bigSepL [5, 6, 7, 8] fun s => iprop(semVal (sCell c i s) 0 ∗ sendPay xs c i s))) ⊢ partPost xs c i := by
  unfold partPost
  simp only [bigSepL_two, bigSepL_singleton]
  iintro ⟨⟨R0, R1, R2, R3, R4⟩, ⟨V0, V1, V2, A⟩, ⟨⟨R5, O5⟩, ⟨R6, O6⟩, ⟨R7, O7⟩, R8, O8⟩, ⟨S0, G0⟩, ⟨S1, G1⟩, ⟨S2, G2⟩, ⟨⟨S3, G3⟩, S4, G4⟩,
    ⟨S5, G5⟩, ⟨S6, G6⟩, ⟨S7, G7⟩, S8, G8⟩
  isplitl [R0 R1 R2 R3 R4 R5 R6 R7 R8]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  isplitl [S0 S1 S2 S3 S4 S5 S6 S7 S8]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  unfold sendPay recvPay
  isplitl [G0 G1 G2]
  · isplitl [G0]; · iapply (heldOn_any c ((inst i).src c 0)); iexact G0
    isplitl [G1]; · iapply (heldOn_any c ((inst i).src c 1)); iexact G1
    iapply (heldOn_any c ((inst i).src c 2)); iexact G2
  isplitl [V0 V1 V2]
  · isplitl [V0]; · iexact V0
    isplitl [V1]; · iexact V1
    iexact V2
  isplitl [A]; · iexact A
  isplitl [G3 G5]
  · iapply (held_join (rc_pos i) c (oM i (grp i c 0 0 0)) (fun _ => fin8 xs c i 0))
    rw [src3, src5]
    isplitl [G3]; · iexact G3
    iexact G5
  isplitl [G4 G6]
  · iapply (held_join (rc_pos i) c (oM i (grp i c 0 0 1)) (fun _ => fin8 xs c i 1))
    rw [src4, src6]
    isplitl [G4]; · iexact G4
    iexact G6
  isplitl [G7]; · rw [src7]; iexact G7
  isplitl [G8]; · rw [src8]; iexact G8
  isplitl [O5]; · rw [dst5, grp_tgt5]; iexact O5
  isplitl [O6]; · rw [dst6, grp_tgt6]; iexact O6
  isplitl [O7]
  · rw [dst7, grp_tgt7]
    iapply (heldOn_mono c (oM i (grp i c 1 1 0)) fullShare (P := fun _ => True) (P' := fun _ => True)
      (vals := fun _ => fin8 xs (tgt i 3 (tgt i 7 c)) i 0) (vals' := fun _ => outV xs c i 1 1 0) (fun t _ _ => ⟨trivial, by
        unfold outV; rw [show grp i c 1 1 0 = tgt i 3 (tgt i 7 c) by revert i c; decide]; rfl⟩))
    iexact O7
  · rw [dst8, grp_tgt8]
    iapply (heldOn_mono c (oM i (grp i c 1 1 1)) fullShare (P := fun _ => True) (P' := fun _ => True)
      (vals := fun _ => fin8 xs (tgt i 4 (tgt i 8 c)) i 1) (vals' := fun _ => outV xs c i 1 1 1) (fun t _ _ => ⟨trivial, by
        unfold outV; rw [show grp i c 1 1 0 = tgt i 4 (tgt i 8 c) by revert i c; decide]; rfl⟩))
    iexact O8

end Body

end Cert.KernelIdeal.AR

end
-- ==== Proof.Own.lean ====
/-
# The buffers and their regions

The result is forty-eight groups, and each scratch buffer the regions its transfers use. A buffer held whole is its
regions held; regions held make the buffer whole again, the result's at one array.
-/
module

public import proofs.«01_k».proof.Proof.Stages

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Groups of the result -/

/-- A group of the result: its part and its bits. -/
abbrev Gp : Type := Fin 6 × Fin 2 × Fin 2 × Fin 2

/-- Where a group lies, as `c` sees it. -/
abbrev gM (c : Dev nD) (q : Gp) : Memref sig .tc .vmem (Sh 1 (inst q.1).rc) .bf16 := oM q.1 (grp q.1 c q.2.1 q.2.2.1 q.2.2.2)

theorem org_apart (i i' : Fin 6) (k k' : Fin 8) (h : (i, k) ≠ (i', k')) :
    org i k 0 + (inst i).rc ≤ org i' k' 0 ∨ org i' k' 0 + (inst i').rc ≤ org i k 0 ∨ org i k 1 + 256 ≤ org i' k' 1 ∨ org i' k' 1 + 256 ≤ org i k 1 := by
  revert i i' k k'; decide +kernel

theorem oM_set (i : Fin 6) (k : Fin 8) : (oM i k).view.set
    = (Rect.unit (s := S2048x512) (org i k) ![1 * (inst i).rc, 256] (org_inb i k)).set.map (O).view.emb := View.set_slice _ _

theorem oM_disjoint (i i' : Fin 6) (k k' : Fin 8) (h : (i, k) ≠ (i', k')) : Disjoint (oM i k).view.set (oM i' k').view.set := by
  rw [oM_set, oM_set]
  refine (Finset.disjoint_map _).mpr (Finset.disjoint_left.mpr fun y hy hy' => ?_)
  have h0 : org i k 0 ≤ (y 0).val ∧ (y 0).val < org i k 0 + 1 * (inst i).rc := Rect.mem_set_unit.mp hy 0
  have h1 : org i k 1 ≤ (y 1).val ∧ (y 1).val < org i k 1 + 256 := Rect.mem_set_unit.mp hy 1
  have h0' : org i' k' 0 ≤ (y 0).val ∧ (y 0).val < org i' k' 0 + 1 * (inst i').rc := Rect.mem_set_unit.mp hy' 0
  have h1' : org i' k' 1 ≤ (y 1).val ∧ (y 1).val < org i' k' 1 + 256 := Rect.mem_set_unit.mp hy' 1
  have := org_apart i i' k k' h
  omega

/-- Rows `r` of a part's half are in its groups. -/
theorem rows_cover (i : Fin 6) (r : ℕ) (h : base i ≤ r ∧ r < base i + 8 * (inst i).rc) :
    ∃ k : Fin 8, org i k 0 ≤ r ∧ r < org i k 0 + 1 * (inst i).rc := by
  have hp := rc_pos i
  have hlt : (r - base i) / (inst i).rc < 8 := Nat.div_lt_of_lt_mul (by rw [Nat.mul_comm]; omega)
  refine ⟨⟨(r - base i) / (inst i).rc, hlt⟩, ?_⟩
  show base i + (r - base i) / (inst i).rc * (inst i).rc ≤ r ∧ r < base i + (r - base i) / (inst i).rc * (inst i).rc + 1 * (inst i).rc
  have h1 := Nat.div_add_mod (r - base i) (inst i).rc
  have h2 := Nat.mod_lt (r - base i) hp
  rw [Nat.mul_comm] at h1
  omega

theorem part_cover (r q : ℕ) (hr : r < 2048) (hq : q < 512) :
    ∃ i : Fin 6, (base i ≤ r ∧ r < base i + 8 * (inst i).rc) ∧ col i ≤ q ∧ q < col i + 256 := by
  have key : ∀ i : Fin 6, base i = (![0, 640, 1280, 0, 640, 1280] : Fin 6 → ℕ) i ∧ 8 * (inst i).rc = (![640, 640, 768, 640, 640, 768] : Fin 6 → ℕ) i
      ∧ col i = (![0, 0, 0, 256, 256, 256] : Fin 6 → ℕ) i := by decide
  by_cases h1 : r < 640
  · by_cases h2 : q < 256
    · refine ⟨0, ?_⟩; obtain ⟨a, b, d⟩ := key 0; rw [a, b, d]; exact ⟨⟨Nat.zero_le _, by simpa using h1⟩, Nat.zero_le _, by simpa using h2⟩
    · refine ⟨3, ?_⟩; obtain ⟨a, b, d⟩ := key 3; rw [a, b, d]; exact ⟨⟨Nat.zero_le _, by simpa using h1⟩, Nat.le_of_not_lt h2, hq⟩
  · by_cases h3 : r < 1280
    · by_cases h2 : q < 256
      · refine ⟨1, ?_⟩; obtain ⟨a, b, d⟩ := key 1; rw [a, b, d]; exact ⟨⟨Nat.le_of_not_lt h1, h3⟩, Nat.zero_le _, by simpa using h2⟩
      · refine ⟨4, ?_⟩; obtain ⟨a, b, d⟩ := key 4; rw [a, b, d]; exact ⟨⟨Nat.le_of_not_lt h1, h3⟩, Nat.le_of_not_lt h2, hq⟩
    · by_cases h2 : q < 256
      · refine ⟨2, ?_⟩; obtain ⟨a, b, d⟩ := key 2; rw [a, b, d]; exact ⟨⟨Nat.le_of_not_lt h3, hr⟩, Nat.zero_le _, by simpa using h2⟩
      · refine ⟨5, ?_⟩; obtain ⟨a, b, d⟩ := key 5; rw [a, b, d]; exact ⟨⟨Nat.le_of_not_lt h3, hr⟩, Nat.le_of_not_lt h2, hq⟩

theorem grp_surj (i : Fin 6) (c : Dev nD) (k : Fin 8) : ∃ b : Fin 2 × Fin 2 × Fin 2, grp i c b.1 b.2.1 b.2.2 = k := by
  revert i c k; decide +kernel

theorem gM_disjoint (c : Dev nD) (q q' : Gp) (h : q ≠ q') : Disjoint (gM c q).view.set (gM c q').view.set := by
  refine oM_disjoint _ _ _ _ fun (he : (q.1, grp q.1 c q.2.1 q.2.2.1 q.2.2.2) = (q'.1, grp q'.1 c q'.2.1 q'.2.2.1 q'.2.2.2)) => h ?_
  obtain ⟨i, b⟩ := q
  obtain ⟨i', b'⟩ := q'
  have h1 : i = i' := congrArg (fun p : Fin 6 × Fin 8 => p.1) he
  subst h1
  have h2 : grp i c b.1 b.2.1 b.2.2 = grp i c b'.1 b'.2.1 b'.2.2 := congrArg (fun p : Fin 6 × Fin 8 => p.2) he
  rw [grp_inj i c h2]

theorem gM_cover (c : Dev nD) : (Finset.univ.biUnion fun q : Gp => (gM c q).view.set) = (O).view.set := by
  ext y
  constructor
  · intro hy
    obtain ⟨q, -, hq⟩ := Finset.mem_biUnion.mp hy
    exact View.set_slice_subset _ _ hq
  · intro hy
    obtain ⟨z, -, rfl⟩ := Finset.mem_map.mp hy
    obtain ⟨i, hr, hc⟩ := part_cover (z 0).val (z 1).val (z 0).isLt (z 1).isLt
    obtain ⟨k, hk⟩ := rows_cover i (z 0).val hr
    obtain ⟨b, hb⟩ := grp_surj i c k
    refine Finset.mem_biUnion.mpr ⟨(i, b), Finset.mem_univ _, ?_⟩
    show _ ∈ (oM i (grp i c b.1 b.2.1 b.2.2)).view.set
    rw [hb, oM_set]
    refine Finset.mem_map_of_mem _ (Rect.mem_set_unit.mpr fun a => ?_)
    match a with
    | ⟨0, _⟩ => exact hk
    | ⟨1, _⟩ => exact hc

/-! ## The result's array -/

omit [FloatOps F] in
/-- What a region holds is a matter of its own elements. -/
theorem HoldsOn.congr {n rc : ℕ} {e : EltTy} {v : View sig .tc .vmem (Sh n rc) e} {P : ℕ → Prop} {vals : ℕ → Blk F rc e} {f g : v.ty.Contents (Elt F)}
    (h : HoldsOn (F := F) v P vals f) (he : ∀ y ∈ v.set, f y = g y) : HoldsOn (F := F) v P vals g := by
  intro t ht hP
  rw [← h t ht hP]
  funext x
  show cast _ (g (v.emb ((chk n rc t ht).emb x))) = cast _ (f (v.emb ((chk n rc t ht).emb x)))
  rw [he _ (View.emb_mem_set v _)]

theorem out_set : (O).view.set = Finset.univ := View.set_whole cc0_stg1_0
theorem out_mem (y : (O).view.ty.Idx) : y ∈ (O).view.set := by rw [out_set]; exact Finset.mem_univ y

/-- Two arrays that hold the same groups are the same. -/
theorem out_ext (c : Dev nD) {vals : (q : Gp) → ℕ → Blk F (inst q.1).rc .bf16} {f g : (O).view.ty.Contents (Elt F)}
    (hf : ∀ q, HoldsOn (F := F) (gM c q).view (fun _ => True) (vals q) f) (hg : ∀ q, HoldsOn (F := F) (gM c q).view (fun _ => True) (vals q) g) : f = g := by
  funext y
  have hy : y ∈ (O).view.set := out_mem y
  rw [← gM_cover c] at hy
  obtain ⟨q, -, hq⟩ := Finset.mem_biUnion.mp hy
  obtain ⟨t, ht, x, rfl⟩ := emb_of_mem_set (gM c q).view (rc_pos q.1) hq
  have h : rdC (gM c q).view t ht f x = rdC (gM c q).view t ht g x := by rw [hf q t ht trivial, hg q t ht trivial]
  exact (cast_bijective _).1 h

/-- Arrays given on disjoint sets are one array. -/
theorem exists_glue {T I V : Type} [DecidableEq I] (S : T → Finset I) (hd : ∀ t t', t ≠ t' → Disjoint (S t) (S t')) (fs : T → I → V) (f₀ : I → V) :
    ∃ g : I → V, ∀ t, ∀ y ∈ S t, g y = fs t y := by
  classical
  refine ⟨fun y => if h : ∃ t, y ∈ S t then fs h.choose y else f₀ y, fun t y hy => ?_⟩
  have h : ∃ t, y ∈ S t := ⟨t, hy⟩
  dsimp only
  rw [dif_pos h]
  by_cases he : h.choose = t
  · rw [he]
  · exact absurd hy (Finset.disjoint_left.mp (hd _ _ he) h.choose_spec)

variable (xs : Dev nD → (X).view.ty.Contents (Elt F))

/-- The values of the result's groups on `c`. -/
abbrev gV (c : Dev nD) (q : Gp) : ℕ → Blk F (inst q.1).rc .bf16 := fun _ => outV xs c q.1 q.2.1 q.2.2.1 q.2.2.2

theorem exists_out (c : Dev nD) : ∃ g : (O).view.ty.Contents (Elt F), ∀ q, HoldsOn (F := F) (gM c q).view (fun _ => True) (gV xs c q) g := by
  have hw : ∀ q : Gp, ∃ f : (O).view.ty.Contents (Elt F), HoldsOn (F := F) (gM c q).view (fun _ => True) (gV xs c q) f := fun q => by
    have h0 : HoldsOn (F := F) ((O).view.slice (rcs (k := 1) (rc := (inst q.1).rc) (org_inb q.1 (grp q.1 c q.2.1 q.2.2.1 q.2.2.2)))) (fun _ => False) (gV xs c q) (xs c) :=
      fun t ht hf => hf.elim
    have inb' : ∀ a, org q.1 (grp q.1 c q.2.1 q.2.2.1 q.2.2.2) a + (![(inst q.1).rc, 256] : Fin 2 → ℕ) a ≤ S2048x512.size a := fun a => by
      have := org_inb q.1 (grp q.1 c q.2.1 q.2.2.1 q.2.2.2) a
      rw [Nat.one_mul] at this; exact this
    have h1 := h0.write (O).view (org_inb q.1 (grp q.1 c q.2.1 q.2.2.1 q.2.2.2)) inb' (t := 0) (fun a => by fin_cases a <;> simp) _ rfl
    exact ⟨_, fun t ht _ => h1 t ht (Or.inl (by omega))⟩
  choose fs hfs using hw
  obtain ⟨g, hg⟩ := exists_glue (fun q : Gp => (gM c q).view.set) (gM_disjoint c) fs (xs c)
  exact ⟨g, fun q => (hfs q).congr fun y hy => (hg q y hy).symm⟩

/-- The result on `c`. -/
def outAt (c : Dev nD) : (O).view.ty.Contents (Elt F) := (exists_out xs c).choose
theorem outAt_spec (c : Dev nD) (q : Gp) : HoldsOn (F := F) (gM c q).view (fun _ => True) (gV xs c q) (outAt xs c) := (exists_out xs c).choose_spec q

section Own

variable (c : Dev nD)

/-- The result's buffer, whole. -/
abbrev oLoc : Loc nD τ sig := (O).view.loc (c : Thread nD τ)

omit [FloatOps F] in
theorem bigSep_groups (Φ : Fin 6 → Fin 2 → Fin 2 → Fin 2 → sProp 𝕄) :
    (bigSep Finset.univ fun q : Gp => Φ q.1 q.2.1 q.2.2.1 q.2.2.2)
      = bigSepL all6 fun i => iprop(Φ i 0 0 0 ∗ Φ i 0 0 1 ∗ Φ i 0 1 0 ∗ Φ i 0 1 1 ∗ Φ i 1 0 0 ∗ Φ i 1 0 1 ∗ Φ i 1 1 0 ∗ Φ i 1 1 1) := by
  rw [bigSep_univ_prod, bigSep_parts]
  congr 1; funext i
  exact bigSep_univ_eq_bigSepL [(0, 0, 0), (0, 0, 1), (0, 1, 0), (0, 1, 1), (1, 0, 0), (1, 0, 1), (1, 1, 0), (1, 1, 1)] (by decide) (by decide) _

omit [FloatOps F] in
/-- The result's buffer is its groups, -/
theorem out_split : (iprop(∃ f, (O).view.loc (c : Thread nD τ) ↦[(O).view.set]{fullShare} f) : sProp 𝕄)
    ⊢ bigSepL all6 fun i => iprop(anyOwn c (oM i (grp i c 0 0 0)) ∗ anyOwn c (oM i (grp i c 0 0 1)) ∗ anyOwn c (oM i (grp i c 0 1 0)) ∗ anyOwn c (oM i (grp i c 0 1 1))
      ∗ anyOwn c (oM i (grp i c 1 0 0)) ∗ anyOwn c (oM i (grp i c 1 0 1)) ∗ anyOwn c (oM i (grp i c 1 1 0)) ∗ anyOwn c (oM i (grp i c 1 1 1))) := by
  rw [← bigSep_groups fun i a b e => anyOwn c (oM i (grp i c a b e)), ← gM_cover c]
  have h : ∀ f, ((O).view.loc (c : Thread nD τ) ↦[Finset.univ.biUnion fun q : Gp => (gM c q).view.set]{fullShare} f : sProp 𝕄)
      = bigSep Finset.univ fun q : Gp => (O).view.loc (c : Thread nD τ) ↦[(gM c q).view.set]{fullShare} f := fun f =>
    pointsTo_biUnion _ _ (fun q _ q' _ h => gM_disjoint c q q' h)
  have h' : ∀ f, (bigSep Finset.univ fun q : Gp => (O).view.loc (c : Thread nD τ) ↦[(gM c q).view.set]{fullShare} f : sProp 𝕄)
      ⊢ bigSep Finset.univ fun q : Gp => anyOwn c (gM c q) := fun f => bigSep_mono fun q _ => by
    show (_ : sProp 𝕄) ⊢ anyOwn c (gM c q)
    unfold anyOwn; iintro H; iexists f; iexact H
  iintro ⟨%f, H⟩
  ihave H := (Entails.of_eq (h f)) $$ H
  iapply (h' f)
  iexact H

/-- and its groups, holding the result's values, are it holding the result. -/
theorem out_join : (bigSepL all6 fun i => iprop(outH xs c i 0 0 0 ∗ outH xs c i 0 0 1 ∗ outH xs c i 0 1 0 ∗ outH xs c i 0 1 1
      ∗ outH xs c i 1 0 0 ∗ outH xs c i 1 0 1 ∗ outH xs c i 1 1 0 ∗ outH xs c i 1 1 1) : sProp 𝕄)
    ⊢ (O).view.loc (c : Thread nD τ) ↦[(O).view.set]{fullShare} outAt xs c := by
  rw [← bigSep_groups fun i a b e => outH xs c i a b e, ← gM_cover c]
  have h : ((O).view.loc (c : Thread nD τ) ↦[Finset.univ.biUnion fun q : Gp => (gM c q).view.set]{fullShare} outAt xs c : sProp 𝕄)
      = bigSep Finset.univ fun q : Gp => (O).view.loc (c : Thread nD τ) ↦[(gM c q).view.set]{fullShare} outAt xs c :=
    pointsTo_biUnion _ _ (fun q _ q' _ h => gM_disjoint c q q' h)
  rw [h]
  refine bigSep_mono fun q _ => ?_
  show held c (gM c q) fullShare (gV xs c q) ⊢ _
  unfold held heldOn
  iintro ⟨%f, %hf, H⟩
  have he : ∀ y ∈ (gM c q).view.set, f y = outAt xs c y := fun y hy => by
    obtain ⟨t, ht, x, rfl⟩ := emb_of_mem_set (gM c q).view (rc_pos q.1) hy
    have h : rdC (gM c q).view t ht f x = rdC (gM c q).view t ht (outAt xs c) x := by rw [hf t ht trivial, outAt_spec xs c q t ht trivial]
    exact (cast_bijective _).1 h
  ihave H := (Entails.of_eq (pointsTo_congr he)) $$ H
  iexact H

/-! ## Scratch buffers -/

theorem h044 : 0 + 4 ≤ 4 := by decide

section Regions

variable {rc : ℕ} {e : EltTy}

omit [FloatOps F] in
theorem reg_set (n t k : ℕ) (h : t + k ≤ n) (y : (Sh n rc).Idx) : y ∈ (reg n rc t k h).set ↔ t * rc ≤ (y 0).val ∧ (y 0).val < (t + k) * rc := by
  have h1 : (y 1).val < 256 := (y 1).isLt
  constructor
  · intro hy
    have := Rect.mem_set_unit.mp hy 0
    rw [Nat.add_mul]; exact this
  · rintro ⟨ha, hb⟩
    rw [Nat.add_mul] at hb
    refine Rect.mem_set_unit.mpr fun a => ?_
    match a with
    | ⟨0, _⟩ => exact ⟨ha, hb⟩
    | ⟨1, _⟩ => exact ⟨Nat.zero_le _, by show (y 1).val < 0 + 256; omega⟩

variable (v : View sig .tc .vmem (Sh 8 rc) e)

theorem three_cover : v.set = (v.slice (reg 8 rc 0 4 h04)).set ∪ ((v.slice (reg 8 rc 4 2 h42)).set ∪ (v.slice (reg 8 rc 6 2 h62)).set) := by
  rw [View.set_slice, View.set_slice, View.set_slice, ← Finset.map_union, ← Finset.map_union]
  show Finset.univ.map v.emb = _
  congr 1
  ext y
  rw [Finset.mem_union, Finset.mem_union, reg_set, reg_set, reg_set]
  have h0 : (y 0).val < 8 * rc := (y 0).isLt
  simp only [Finset.mem_univ, true_iff]
  omega

theorem three_apart : Disjoint (v.slice (reg 8 rc 0 4 h04)).set ((v.slice (reg 8 rc 4 2 h42)).set ∪ (v.slice (reg 8 rc 6 2 h62)).set)
    ∧ Disjoint (v.slice (reg 8 rc 4 2 h42)).set (v.slice (reg 8 rc 6 2 h62)).set := by
  rw [View.set_slice, View.set_slice, View.set_slice, ← Finset.map_union]
  constructor
  · refine (Finset.disjoint_map _).mpr (Finset.disjoint_left.mpr fun y hy hy' => ?_)
    rw [reg_set] at hy
    rw [Finset.mem_union, reg_set, reg_set] at hy'
    omega
  · refine (Finset.disjoint_map _).mpr (Finset.disjoint_left.mpr fun y hy hy' => ?_)
    rw [reg_set] at hy hy'
    omega

variable (M : Memref sig .tc .vmem (Sh 8 rc) e)

omit [FloatOps F] in
theorem three_split : anyOwn (F := F) c M ⊢ iprop(anyOwn c (M.slice (reg 8 rc 0 4 h04) (fun _ => rfl)) ∗ anyOwn c (M.slice (reg 8 rc 4 2 h42) (fun _ => rfl))
    ∗ anyOwn c (M.slice (reg 8 rc 6 2 h62) (fun _ => rfl))) := by
  unfold anyOwn
  rw [three_cover M.view]
  iintro ⟨%f, H⟩
  ihave H := (pointsTo_union (three_apart M.view).1).1 $$ H
  icases H with ⟨H0, H⟩
  ihave H := (pointsTo_union (three_apart M.view).2).1 $$ H
  icases H with ⟨H1, H2⟩
  isplitl [H0]; · iexists f; iexact H0
  isplitl [H1]; · iexists f; iexact H1
  iexists f; iexact H2

omit [FloatOps F] in
theorem three_join : iprop(anyOwn c (M.slice (reg 8 rc 0 4 h04) (fun _ => rfl)) ∗ anyOwn c (M.slice (reg 8 rc 4 2 h42) (fun _ => rfl))
    ∗ anyOwn c (M.slice (reg 8 rc 6 2 h62) (fun _ => rfl))) ⊢ anyOwn (F := F) c M := by
  unfold anyOwn
  rw [three_cover M.view]
  iintro ⟨⟨%f0, H0⟩, ⟨%f1, H1⟩, ⟨%f2, H2⟩⟩
  ihave H := (pointsTo_join (ℓ := M.view.loc (c : Thread nD τ)) (three_apart M.view).2) $$ [H1 H2]
  · isplitl [H1]; · iexact H1
    iexact H2
  ihave H := (pointsTo_join (ℓ := M.view.loc (c : Thread nD τ)) (three_apart M.view).1) $$ [H0 H]
  · isplitl [H0]; · iexact H0
    iexact H
  iexists _; iexact H

omit [FloatOps F] in
theorem acc_whole (A : Memref sig .tc .vmem (Sh 4 rc) e) : anyOwn (F := F) c (A.slice (reg 4 rc 0 4 h044) (fun _ => rfl)) = anyOwn c A := by
  have h : ((A.view.slice (reg 4 rc 0 4 h044)).set : Finset A.view.ty.Idx) = A.view.set := by
    rw [View.set_slice]
    show _ = Finset.univ.map A.view.emb
    congr 1
    ext y
    rw [reg_set]
    have h0 : (y 0).val < 4 * rc := (y 0).isLt
    simp only [Finset.mem_univ, iff_true]
    omega
  unfold anyOwn
  show iprop(∃ f, A.view.loc (c : Thread nD τ) ↦[((A.view.slice (reg 4 rc 0 4 h044)).set : Finset A.view.ty.Idx)]{fullShare} f) = _
  rw [h]

end Regions

/-- A part's scratch buffers. -/
def scr (i : Fin 6) : sProp 𝕄 := iprop(anyOwn c (inst i).snd ∗ anyOwn c (inst i).rcv ∗ anyOwn c (inst i).acc)

theorem snd_whole (i : Fin 6) : (inst i).snd.view.set = Finset.univ := by fin_cases i <;> exact View.set_whole _
theorem rcv_whole (i : Fin 6) : (inst i).rcv.view.set = Finset.univ := by fin_cases i <;> exact View.set_whole _
theorem acc_set (i : Fin 6) : (inst i).acc.view.set = Finset.univ := by fin_cases i <;> exact View.set_whole _

omit [FloatOps F] in
theorem scr_eq (i : Fin 6) : scr (F := F) c i = iprop((∃ f, (inst i).snd.view.loc (c : Thread nD τ) ↦{fullShare} f)
    ∗ (∃ f, (inst i).rcv.view.loc (c : Thread nD τ) ↦{fullShare} f) ∗ (∃ f, (inst i).acc.view.loc (c : Thread nD τ) ↦{fullShare} f)) := by
  unfold scr anyOwn
  rw [snd_whole, rcv_whole, acc_set]

omit [FloatOps F] in
theorem scr_list : bigSepL all6 (scr (F := F) c) = iprop(scr c 0 ∗ scr c 1 ∗ scr c 2 ∗ scr c 3 ∗ scr c 4 ∗ scr c 5) := rfl

omit [FloatOps F] in
/-- The scratch buffers, listed by part. -/
theorem scratch_split : (Pipeline.scopedRest spec0 c : sProp 𝕄) ⊢ bigSepL all6 (scr c) := by
  rw [scopedRest0_eq, scr_list]
  simp only [scr_eq]
  iintro ⟨S0, R0, A0, S1, R1, A1, S2, R2, A2, S3, R3, A3, S4, R4, A4, S5, R5, A5⟩
  isplitl [S0 R0 A0]
  · isplitl [S0]; · iexact S0
    isplitl [R0]; · iexact R0
    iexact A0
  isplitl [S1 R1 A1]
  · isplitl [S1]; · iexact S1
    isplitl [R1]; · iexact R1
    iexact A1
  isplitl [S2 R2 A2]
  · isplitl [S2]; · iexact S2
    isplitl [R2]; · iexact R2
    iexact A2
  isplitl [S3 R3 A3]
  · isplitl [S3]; · iexact S3
    isplitl [R3]; · iexact R3
    iexact A3
  isplitl [S4 R4 A4]
  · isplitl [S4]; · iexact S4
    isplitl [R4]; · iexact R4
    iexact A4
  isplitl [S5]; · iexact S5
  isplitl [R5]; · iexact R5
  iexact A5

omit [FloatOps F] in
theorem scratch_join : bigSepL all6 (scr c) ⊢ (Pipeline.scopedRest spec0 c : sProp 𝕄) := by
  rw [scopedRest0_eq, scr_list]
  simp only [scr_eq]
  iintro ⟨⟨S0, R0, A0⟩, ⟨S1, R1, A1⟩, ⟨S2, R2, A2⟩, ⟨S3, R3, A3⟩, ⟨S4, R4, A4⟩, ⟨S5, R5, A5⟩⟩
  isplitl [S0]; · iexact S0
  isplitl [R0]; · iexact R0
  isplitl [A0]; · iexact A0
  isplitl [S1]; · iexact S1
  isplitl [R1]; · iexact R1
  isplitl [A1]; · iexact A1
  isplitl [S2]; · iexact S2
  isplitl [R2]; · iexact R2
  isplitl [A2]; · iexact A2
  isplitl [S3]; · iexact S3
  isplitl [R3]; · iexact R3
  isplitl [A3]; · iexact A3
  isplitl [S4]; · iexact S4
  isplitl [R4]; · iexact R4
  isplitl [A4]; · iexact A4
  isplitl [S5]; · iexact S5
  isplitl [R5]; · iexact R5
  iexact A5

/-! ## Everything -/

omit [FloatOps F] in
/-- The buffers are the regions a part starts with and those it lends. -/
theorem regions_start : iprop(bigSepL all6 (scr c) ∗ ∃ f, (O).view.loc (c : Thread nD τ) ↦[(O).view.set]{fullShare} f)
    ⊢ iprop(bigSepL all6 (partPre (F := F) c) ∗ lent c) := by
  unfold lent
  rw [bigSep_transfers fun i s => anyOwn c ((inst i).dst (tgt i s c) s), ← bigSepL_sep]
  refine (sep_mono_right (out_split c)).trans ?_
  rw [← bigSepL_sep]
  refine bigSepL_mono fun i _ => ?_
  show _ ⊢ iprop(partPre c i ∗ (anyOwn c ((inst i).dst (tgt i 0 c) 0) ∗ anyOwn c ((inst i).dst (tgt i 1 c) 1) ∗ anyOwn c ((inst i).dst (tgt i 2 c) 2)
    ∗ anyOwn c ((inst i).dst (tgt i 3 c) 3) ∗ anyOwn c ((inst i).dst (tgt i 4 c) 4) ∗ anyOwn c ((inst i).dst (tgt i 5 c) 5)
    ∗ anyOwn c ((inst i).dst (tgt i 6 c) 6) ∗ anyOwn c ((inst i).dst (tgt i 7 c) 7) ∗ anyOwn c ((inst i).dst (tgt i 8 c) 8)))
  unfold scr partPre
  iintro ⟨⟨S, R, A⟩, O0, O1, O2, O3, O4, O5, O6, O7⟩
  ihave S := (three_split c (inst i).snd) $$ S
  icases S with ⟨S0, S1, S2⟩
  ihave R := (three_split c (inst i).rcv) $$ R
  icases R with ⟨R0, R1, R2⟩
  isplitl [S0 S1 S2 A O0 O1]
  · isplitl [S0]; · iexact S0
    isplitl [S1]; · iexact S1
    isplitl [S2]; · iexact S2
    isplitl [A]; · rw [acc_whole]; iexact A
    isplitl [O0]; · iexact O0
    iexact O1
  isplitl [R0]; · iexact R0
  isplitl [R1]; · iexact R1
  isplitl [R2]; · iexact R2
  isplitl [O2]; · rw [dst3, grp_tgt3]; iexact O2
  isplitl [O3]; · rw [dst4, grp_tgt4]; iexact O3
  isplitl [O4]; · rw [dst5, grp_tgt5]; iexact O4
  isplitl [O5]; · rw [dst6, grp_tgt6]; iexact O5
  isplitl [O6]; · rw [dst7, grp_tgt7]; iexact O6
  rw [dst8, grp_tgt8]; iexact O7

omit [FloatOps F] in
/-- The regions of a part make its buffers. -/
theorem scr_join : iprop((bigSepL all6 fun i => iprop(anyOwn c ((inst i).src c 0) ∗ anyOwn c ((inst i).src c 1) ∗ anyOwn c ((inst i).src c 2)))
    ∗ (bigSepL all6 fun i => iprop(anyOwn c (rcvR i 0 4 h04) ∗ anyOwn c (rcvR i 4 2 h42) ∗ anyOwn c (rcvR i 6 2 h62)))
    ∗ bigSepL all6 fun i => anyOwn c (accR i)) ⊢ bigSepL all6 (scr (F := F) c) := by
  rw [← bigSepL_sep, ← bigSepL_sep]
  refine bigSepL_mono fun i _ => ?_
  show _ ⊢ scr c i
  unfold scr
  iintro ⟨S, R, A⟩
  isplitl [S]; · iapply (three_join c (inst i).snd); iexact S
  isplitl [R]; · iapply (three_join c (inst i).rcv); iexact R
  iapply (Entails.of_eq (acc_whole c (inst i).acc)); iexact A

/-- At the end the buffers are whole again, every transfer's semaphores are at zero, and the result is there. -/
theorem regions_end : bigSepL all6 (partPost xs c)
    ⊢ iprop((bigSepL all6 fun i => bigSepL all9 fun s => semVal (rCell c i s) 0) ∗ (bigSepL all6 fun i => bigSepL all9 fun s => semVal (sCell c i s) 0)
      ∗ bigSepL all6 (scr c) ∗ (O).view.loc (c : Thread nD τ) ↦[(O).view.set]{fullShare} outAt xs c) := by
  unfold partPost scr
  rw [bigSepL_sep all6 (fun i => bigSepL all9 _), bigSepL_sep all6 (fun i => bigSepL all9 _),
    bigSepL_sep all6 (fun i => iprop(anyOwn c ((inst i).src c 0) ∗ anyOwn c ((inst i).src c 1) ∗ anyOwn c ((inst i).src c 2))),
    bigSepL_sep all6 (fun i => iprop(anyOwn c (rcvR i 0 4 h04) ∗ anyOwn c (rcvR i 4 2 h42) ∗ anyOwn c (rcvR i 6 2 h62))), bigSepL_sep all6 (fun i => anyOwn c (accR i))]
  iintro ⟨HR, HS, Hs, Hr, Ha, Ho⟩
  isplitl [HR]; · iexact HR
  isplitl [HS]; · iexact HS
  isplitl [Hs Hr Ha]
  · iapply (scr_join c)
    isplitl [Hs]; · iexact Hs
    isplitl [Hr]; · iexact Hr
    iexact Ha
  iapply (out_join xs c)
  iexact Ho

end Own

end Cert.KernelIdeal.AR

end
-- ==== Proof.Fund.lean ====
/-
# The launch's ghost state

The semaphores' invariants, tokens and positions, made at the launch for all devices at once, and what each device gets of
them; the credit each device starts with.
-/
module

public import proofs.«01_k».proof.Proof.Own
public import Idealize.ShloMosaic.Lib.Pipeline.Launch
public import Idealize.ShloMosaic.Lib.Pipeline.Kit

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Sums

omit [FloatOps F] in
/-- Over the protocol's semaphores: the transfers', and the barrier. -/
theorem bigSep_kd (Φ : Kd → sProp 𝕄) : bigSep Finset.univ Φ = iprop((bigSep Finset.univ fun p => Φ (some p)) ∗ Φ none) := by
  rw [bigSep_univ_equiv (Equiv.optionEquivSumPUnit.{0} (Bool × Fin 6 × Fin 9)).symm Φ, bigSep_univ_sum,
    bigSep_univ_of_subsingleton PUnit.unit.{1}]
  rfl
omit [FloatOps F] in
/-- Over the transfers' semaphores: the send ones and the receive ones. -/
theorem bigSep_xfer (Φ : Bool × Fin 6 × Fin 9 → sProp 𝕄) :
    bigSep Finset.univ Φ = iprop((bigSep Finset.univ fun p => Φ (false, p)) ∗ bigSep Finset.univ fun p => Φ (true, p)) := by
  rw [bigSep_univ_prod, bigSep_univ_eq_bigSepL [false, true] (by decide) (by decide), bigSepL_two, bigSepL_singleton]
omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

end Sums

/-- The kernel's own semaphores. -/
def osem (p : Bool × Fin 6 × Fin 9) : SemLoc sig := csem (some p)

def allCells : Finset (GSem nD τ sig) := Finset.univ.map ⟨kcell, kcell_injective⟩

/-- The tokens of a device's own semaphores: three of the barrier, one of each transfer's. -/
abbrev Tk : Type := Fin 3 ⊕ Bool × Fin 6 × Fin 9
def tokOf (p : Dev nD × Tk) : GSem nD τ sig × ℕ × Fin 3 :=
  match p.2 with
  | .inl d => (bCell p.1, 0, d)
  | .inr q => (kcell (p.1, some q), 0, 0)
theorem tokOf_injective : Function.Injective tokOf := by
  rintro ⟨c, t⟩ ⟨c', t'⟩ h
  rcases t with d | q <;> rcases t' with d' | q'
  · have h1 := kcell_injective (show kcell (c, none) = kcell (c', none) from congrArg Prod.fst h)
    have h2 : d = d' := congrArg (fun x : GSem nD τ sig × ℕ × Fin 3 => x.2.2) h
    rw [h2, (Prod.mk.inj h1).1]
  · exact absurd (Prod.mk.inj (kcell_injective (show kcell (c, none) = kcell (c', some q') from congrArg Prod.fst h))).2 (by intro h; cases h)
  · exact absurd (Prod.mk.inj (kcell_injective (show kcell (c, some q) = kcell (c', none) from congrArg Prod.fst h))).2 (by intro h; cases h)
  · obtain ⟨h1, h2⟩ := Prod.mk.inj (kcell_injective (show kcell (c, some q) = kcell (c', some q') from congrArg Prod.fst h))
    subst h1
    rw [Option.some.inj h2]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

section Ghost

variable (xs : Dev nD → (X).view.ty.Contents (Elt F))

/-- The tokens of the duties that others pay `c`. -/
def toks (c : Dev nD) : sProp 𝕄 :=
  iprop((dutyTok ER (bCell c) 0 0 ∗ dutyTok ER (bCell c) 0 1 ∗ dutyTok ER (bCell c) 0 2)
    ∗ (bigSep Finset.univ fun p : Fin 6 × Fin 9 => dutyTok ER (sCell c p.1 p.2) 0 0) ∗ bigSep Finset.univ fun p : Fin 6 × Fin 9 => dutyTok ER (rCell c p.1 p.2) 0 0)
/-- The tokens of the duties that `c` pays. -/
def payToks (c : Dev nD) : sProp 𝕄 :=
  iprop((dutyTok ER (bCell (nbr 0 c)) 0 0 ∗ dutyTok ER (bCell (nbr 1 c)) 0 1 ∗ dutyTok ER (bCell (nbr 2 c)) 0 2) ∗ sendToks c)

/-- What the launch's element gives `c`. -/
def G (c : Dev nD) : sProp 𝕄 :=
  iprop((bigSep Finset.univ fun k : Kd => roundState ER (sched xs) (kcell (c, k)) 0)
    ∗ (bigSep Finset.univ fun k : Kd => atPos ER (kcell (c, k)) 0 ∅ 0) ∗ (bigSep Finset.univ fun k : Kd => reached ER (kcell (c, k)) 0) ∗ toks c)

/-- What all devices share. -/
def shared (K : Dev nD × Kd → ℕ) : sProp 𝕄 :=
  iprop((bigSep Finset.univ fun p : Dev nD × Kd => cellInv ER (sched xs) (K p) (kcell p)) ∗ bigSep Finset.univ fun p : Dev nD × Kd => reached ER (kcell p) 0)
instance shared_persistent (K : Dev nD × Kd → ℕ) : BI.Persistent (shared (F := F) xs K) := by unfold shared; infer_instance

/-- What is `c`'s alone. -/
def mine (c : Dev nD) : sProp 𝕄 := iprop((bigSep Finset.univ fun k : Kd => atPos ER (kcell (c, k)) 0 ∅ 0) ∗ payToks c)
/-- What `c` starts with. -/
def G' (c : Dev nD) : sProp 𝕄 := iprop(∃ K, shared xs K ∗ mine c)

theorem fund_all : BI.own (ER (initOf allCells allToks)) ⊢ (|==> bigSep Finset.univ (G (F := F) xs) : sProp 𝕄) := by
  have hX (Φ : GSem nD τ sig → sProp 𝕄) : bigSep allCells Φ = bigSep Finset.univ fun c : Dev nD => bigSep Finset.univ fun k : Kd => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_three, bigSep_xfer]
    rfl
  iintro HX
  imod (Rounds.fund ER (sched xs) allCells allToks) $$ HX with ⟨Hst, Hr, Hat, Htok⟩
  imodintro
  ihave Hst' := (Entails.of_eq (hX fun g => roundState ER (sched xs) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun p : Bool × Fin 6 × Fin 9 => semVal (kcell (c, some p)) 0 := rfl
omit [FloatOps F] in
theorem unscopedSems0_eq (c : Dev nD) : (unscopedSems0 c : sProp 𝕄) = semVal (bCell c) 0 := by
  unfold unscopedSems0
  rw [bigSep_eq_bigSepL_of_eq [SemLoc.reg bSem] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G xs c)
      ⊢ |={Set.univ}=> iprop((bigSep Finset.univ fun k => iprop(∃ κ : ℕ, cellInv ER (sched xs) κ (kcell (c, k))))
          ∗ (bigSep Finset.univ fun k : Kd => atPos ER (kcell (c, k)) 0 ∅ 0) ∗ (bigSep Finset.univ fun k : Kd => reached ER (kcell (c, k)) 0) ∗ toks c) := by
  unfold G
  rw [ownSems0_eq, unscopedSems0_eq]
  iintro ⟨Hos, Hus, Hst, Hat, Hr, Htok⟩
  imod (show iprop(((bigSep Finset.univ fun p : Bool × Fin 6 × Fin 9 => semVal (kcell (c, some p)) 0) ∗ semVal (bCell c) 0)
        ∗ bigSep Finset.univ fun k : Kd => roundState ER (sched xs) (kcell (c, k)) 0)
      ⊢ (|={Set.univ}=> bigSep Finset.univ fun k => iprop(∃ κ : ℕ, cellInv ER (sched xs) κ (kcell (c, k))) : sProp 𝕄) from by
        rw [show iprop((bigSep Finset.univ fun p : Bool × Fin 6 × Fin 9 => semVal (kcell (c, some p)) 0) ∗ semVal (bCell c) 0)
          = (bigSep Finset.univ fun k : Kd => semVal (kcell (c, k)) 0 : sProp 𝕄) from (bigSep_kd fun k => semVal (kcell (c, k)) 0).symm, ← bigSep_sep']
        exact (bigSep_mono fun k _ => (Rounds.body_intro ER (sched xs) (kcell (c, k))).trans inv_alloc).trans (bigSep_fupd _ _)) $$ [Hos Hus Hst] with Hinv
  · isplitl [Hos Hus]
    · isplitl [Hos] <;> iassumption
    iexact Hst
  imodintro
  isplitl [Hinv]; · iexact Hinv
  isplitl [Hat]; · iexact Hat
  isplitl [Hr]; · iexact Hr
  iexact Htok

/-- The device across, of each transfer. -/
def across : Dev nD × (Fin 6 × Fin 9) ≃ Dev nD × (Fin 6 × Fin 9) where
  toFun q := (tgt q.2.1 q.2.2 q.1, q.2)
  invFun q := (tgt q.2.1 q.2.2 q.1, q.2)
  left_inv q := by dsimp only; rw [tgt_tgt]
  right_inv q := by dsimp only; rw [tgt_tgt]
def nbrE (d : Fin 3) : Dev nD ≃ Dev nD := ⟨nbr d, nbr d, nbr_nbr d, nbr_nbr d⟩

omit [FloatOps F] in
/-- The tokens change hands: a transfer's lands with its sender, a signal's with its sender. -/
theorem toks_around : (bigSep Finset.univ fun c : Dev nD => (toks c : sProp 𝕄)) ⊢ bigSep Finset.univ fun c : Dev nD => payToks c := by
  have hR : (bigSep Finset.univ fun c : Dev nD => bigSep Finset.univ fun p : Fin 6 × Fin 9 => (dutyTok ER (rCell c p.1 p.2) 0 0 : sProp 𝕄))
      = bigSep Finset.univ fun c : Dev nD => bigSep Finset.univ fun p : Fin 6 × Fin 9 => dutyTok ER (rCell (tgt p.1 p.2 c) p.1 p.2) 0 0 := by
    rw [← bigSep_univ_prod (fun q : Dev nD × (Fin 6 × Fin 9) => (dutyTok ER (rCell q.1 q.2.1 q.2.2) 0 0 : sProp 𝕄)), bigSep_univ_equiv across,
      bigSep_univ_prod]
    rfl
  unfold toks payToks sendToks
  simp only [bigSep_sep']
  rw [hR, bigSep_univ_equiv (nbrE 0) (fun c : Dev nD => (dutyTok ER (bCell c) 0 0 : sProp 𝕄)),
    bigSep_univ_equiv (nbrE 1) (fun c : Dev nD => (dutyTok ER (bCell c) 0 1 : sProp 𝕄)),
    bigSep_univ_equiv (nbrE 2) (fun c : Dev nD => (dutyTok ER (bCell c) 0 2 : sProp 𝕄))]
  exact Entails.of_eq rfl

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched xs) κ (kcell (c, k))))
          ∗ (bigSep Finset.univ fun k : Kd => atPos ER (kcell (c, k)) 0 ∅ 0) ∗ (bigSep Finset.univ fun k : Kd => reached ER (kcell (c, k)) 0) ∗ toks c) : sProp 𝕄)
      ⊢ bigSep Finset.univ (G' xs) := by
  rw [bigSep_sep', bigSep_sep', bigSep_sep', ← bigSep_univ_prod (fun p : Dev nD × Kd => iprop(∃ κ : ℕ, cellInv ER (sched xs) κ (kcell p))),
    ← bigSep_univ_prod (fun p : Dev nD × Kd => (reached ER (kcell p) 0 : sProp 𝕄))]
  iintro ⟨HI, Hat, #HR, Htok⟩
  ihave HK := (BI.bigSep_exists_pi Finset.univ (fun (p : Dev nD × Kd) (κ : ℕ) => (cellInv ER (sched xs) κ (kcell p) : sProp 𝕄))) $$ HI
  icases HK with ⟨%K, #HI⟩
  ihave Htk := (toks_around (F := F)) $$ Htok
  iapply (bigSep_with (R := shared xs K) (Φ := mine) (Ψ := G' xs) fun c _ => by
    show iprop(shared xs K ∗ mine c) ⊢ G' xs c
    unfold G'
    iintro H
    iexists K
    iexact H)
  isplitr
  · unfold shared; isplitl; · iexact HI
    iexact HR
  · unfold mine
    rw [bigSep_sep']
    isplitl [Hat]; · iexact Hat
    iexact Htk

/-- Everything above, for all devices at once. -/
theorem glob : (bigSep Finset.univ fun c => iprop(Pipeline.ownSems0 (Ix := Unit) (Name := ℕ) (U := UU) (Lvl := ℕ) (Val := Elt F) (τ := τ) osem c ∗ unscopedSems0 c ∗ G xs c) : sProp 𝕄)
    ⊢ |={Set.univ}=> bigSep Finset.univ (G' xs) :=
  ((bigSep_mono fun c _ => core_alloc xs c).trans (bigSep_fupd _ _)).trans (BI.fupd_mono (regroup xs))

end Ghost

/-! ## Credit -/

section Credit

theorem sum_tally (f : Dev nD ≃ Dev nD) (k k' : Kd) (c : Dev nD) (n : ℕ) :
    ∑ d : Dev nD, (tallyAt (kcell (f d, k)) () n : CellTallies nD τ sig Unit) (kcell (c, k')) () = if k' = k then n else 0 := by
  simp only [tallyAt_apply]
  by_cases h : k' = k
  · subst h
    rw [if_pos rfl, Finset.sum_eq_single (f.symm c)]
    · rw [f.apply_symm_apply, if_pos ⟨rfl, trivial⟩]
    · intro d _ hd
      rw [if_neg]
      rintro ⟨e, -⟩
      exact hd (by rw [show c = f d from (Prod.mk.inj (kcell_injective e)).1, f.symm_apply_apply])
    · intro hn; exact absurd (Finset.mem_univ _) hn
  · rw [if_neg h]
    exact Finset.sum_eq_zero fun d _ => if_neg fun ⟨e, _⟩ => h (Prod.mk.inj (kcell_injective e)).2

def tgtE (i : Fin 6) (s : Fin 9) : Dev nD ≃ Dev nD := ⟨tgt i s, tgt i s, tgt_tgt i s, tgt_tgt i s⟩

/-- What all devices owe a semaphore of `c`'s. -/
theorem sum_owed (c : Dev nD) (k : Kd) :
    ∑ d : Dev nD, Ow₀ d (kcell (c, k)) () = (∑ p : Fin 6 × Fin 9, if k = some (true, p) then amt p.1 p.2 else 0) + (if k = none then 3 else 0) := by
  unfold Ow₀ Ow
  simp only [Pi.add_apply, Finsupp.add_apply, Finset.sum_add_distrib, Finset.sum_apply, Finsupp.finset_sum_apply, Nat.zero_le, Finset.filter_true]
  rw [Finset.sum_comm]
  have h0 := sum_tally (nbrE 0) none k c 1
  have h1 := sum_tally (nbrE 1) none k c 1
  have h2 := sum_tally (nbrE 2) none k c 1
  have hp : ∀ p : Fin 6 × Fin 9, ∑ d : Dev nD, (tallyAt (rCell (tgt p.1 p.2 d) p.1 p.2) () (amt p.1 p.2) : CellTallies nD τ sig Unit) (kcell (c, k)) ()
      = if k = some (true, p) then amt p.1 p.2 else 0 := fun p => sum_tally (tgtE p.1 p.2) (some (true, p)) k c _
  rw [Finset.sum_congr rfl fun p _ => hp p]
  show _ + ∑ d : Dev nD, (tallyAt (kcell (nbrE 2 d, none)) () 1 : CellTallies nD τ sig Unit) (kcell (c, k)) ()
    + ∑ d : Dev nD, (tallyAt (kcell (nbrE 1 d, none)) () 1 : CellTallies nD τ sig Unit) (kcell (c, k)) ()
    + ∑ d : Dev nD, (tallyAt (kcell (nbrE 0 d, none)) () 1 : CellTallies nD τ sig Unit) (kcell (c, k)) () = _
  rw [h0, h1, h2]
  split <;> omega

theorem launch_bar (c : Dev nD) :
    tallyOn (bCell c) (launchCredit (Pipeline.owing Ow₀) 0 (bCell c)) = (tallyAt (bCell c) () 3 : CellTallies nD τ sig Unit) := by
  unfold tallyAt; refine congrArg _ (Finsupp.ext fun u => ?_); cases u
  rw [Pipeline.launchCredit_owing, Finsupp.single_eq_same, sum_owed c none, if_pos rfl,
    Finset.sum_eq_zero fun p _ => if_neg (by intro h; cases h)]
theorem launch_recv (c : Dev nD) (i : Fin 6) (s : Fin 9) :
    tallyOn (rCell c i s) (launchCredit (Pipeline.owing Ow₀) 0 (rCell c i s)) = (tallyAt (rCell c i s) () (amt i s) : CellTallies nD τ sig Unit) := by
  unfold tallyAt; refine congrArg _ (Finsupp.ext fun u => ?_); cases u
  rw [Pipeline.launchCredit_owing, Finsupp.single_eq_same, sum_owed c (some (true, i, s)), if_neg (by intro h; cases h), Nat.add_zero,
    Finset.sum_eq_single (i, s)]
  · rw [if_pos rfl]
  · intro p _ hp; exact if_neg fun h => hp (by cases h; rfl)
  · intro hn; exact absurd (Finset.mem_univ _) hn

omit [FloatOps F] in
/-- The credit a device starts with: three units of its barrier, and what comes with each transfer to it. -/
theorem creds (c : Dev nD) : (Pipeline.launchCred Ow₀ c : sProp 𝕄)
    ⊢ iprop(cred (tallyAt (bCell c) () 3) ∗ bigSep Finset.univ fun p : Fin 6 × Fin 9 => cred (tallyAt (rCell c p.1 p.2) () (amt p.1 p.2))) := by
  have hinj : Function.Injective fun p : Option (Fin 6 × Fin 9) => csem (p.map fun q => (true, q)) := by
    intro p p' h
    have := csem_injective h
    rcases p with _ | p <;> rcases p' with _ | p' <;> first | rfl | cases this | skip
    rfl
  unfold Pipeline.launchCred
  refine (bigSep_subset (Finset.subset_univ (Finset.univ.map ⟨_, hinj⟩))).trans ?_
  rw [bigSep_map, bigSep_univ_equiv (Equiv.optionEquivSumPUnit.{0} (Fin 6 × Fin 9)).symm, bigSep_univ_sum, bigSep_univ_of_subsingleton PUnit.unit.{1}]
  refine (show iprop((bigSep Finset.univ fun p : Fin 6 × Fin 9 => cred (tallyOn (rCell c p.1 p.2) (launchCredit (Pipeline.owing Ow₀) 0 (rCell c p.1 p.2))))
    ∗ cred (tallyOn (bCell c) (launchCredit (Pipeline.owing Ow₀) 0 (bCell c)))) ⊢ _ from ?_)
  rw [launch_bar, bigSep_congr fun (p : Fin 6 × Fin 9) _ => congrArg cred (launch_recv c p.1 p.2)]
  iintro ⟨H1, H2⟩
  isplitl [H2]; · iexact H2
  iexact H1

end Credit

end Cert.KernelIdeal.AR

end
-- ==== Proof.Body.lean ====
/-
# The body, whole
-/
module

public import proofs.«01_k».proof.Proof.Stages

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → (X).view.ty.Contents (Elt F)) (K : Dev nD × Kd → ℕ)

section Body

variable (c : Dev nD)

omit [FloatOps F] in
/-- The transfers' landing regions and tokens are what the transfers need. -/
theorem sends_ready : iprop(lands (F := F) c ∗ sendToks c)
    ⊢ iprop(bigSepL all6 (fun i => toSend c i 0) ∗ bigSepL all6 (fun i => toSend c i 1) ∗ bigSepL all6 (fun i => toSend c i 2)
      ∗ bigSepL all6 (fun i => iprop(toSend c i 3 ∗ toSend c i 4))
      ∗ bigSepL all6 (fun i => iprop(toSend c i 5 ∗ toSend c i 6 ∗ toSend c i 7 ∗ toSend c i 8))) := by
  have h : iprop(lands (F := F) c ∗ sendToks c) = bigSepL all6 fun i => bigSepL all9 (toSend c i) := by
    unfold lands sendToks
    rw [← bigSep_sep', ← bigSep_transfers]
    rfl
  rw [h]
  simp only [show ∀ i, bigSepL all9 (toSend (F := F) c i) = iprop(toSend c i 0 ∗ toSend c i 1 ∗ toSend c i 2 ∗ toSend c i 3 ∗ toSend c i 4
    ∗ toSend c i 5 ∗ toSend c i 6 ∗ toSend c i 7 ∗ toSend c i 8) from fun _ => rfl, bigSepL_sep]
  iintro ⟨H0, H1, H2, H3, H4, H5, H6, H7, H8⟩
  isplitl [H0]; · iexact H0
  isplitl [H1]; · iexact H1
  isplitl [H2]; · iexact H2
  isplitl [H3 H4]
  · isplitl [H3]; · iexact H3
    iexact H4
  isplitl [H5]; · iexact H5
  isplitl [H6]; · iexact H6
  isplitl [H7]; · iexact H7
  iexact H8

omit [FloatOps F] in
/-- What the waits for arrivals take, stage by stage. -/
theorem recvs_ready : recvToks (F := F) c
    ⊢ iprop(bigSepL all6 (fun i => toRecv c i 0) ∗ bigSepL all6 (fun i => toRecv c i 1) ∗ bigSepL all6 (fun i => toRecv c i 2)
      ∗ bigSepL all6 (fun i => toRecv c i 3) ∗ bigSepL all6 (fun i => toRecv c i 4)
      ∗ bigSepL all6 (fun i => bigSepL [5, 6, 7, 8] (toRecv c i))) := by
  unfold recvToks
  rw [bigSep_transfers]
  simp only [show ∀ i, bigSepL all9 (toRecv (F := F) c i) = iprop(toRecv c i 0 ∗ toRecv c i 1 ∗ toRecv c i 2 ∗ toRecv c i 3 ∗ toRecv c i 4
    ∗ bigSepL [5, 6, 7, 8] (toRecv c i)) from fun _ => rfl, bigSepL_sep]
  exact BI.Entails.refl _

/-- The waits for departures, stage by stage. -/
abbrev posS (i : Fin 6) (s : Fin 9) : sProp 𝕄 := atPos ER (sCell c i s) 0 ∅ 0
omit [FloatOps F] in
theorem leaves_ready : leavePos (F := F) c
    ⊢ iprop(bigSepL all6 (fun i => posS c i 0) ∗ bigSepL all6 (fun i => posS c i 1) ∗ bigSepL all6 (fun i => posS c i 2)
      ∗ bigSepL all6 (fun i => posS c i 3) ∗ bigSepL all6 (fun i => posS c i 4) ∗ bigSepL all6 (fun i => posS c i 5)
      ∗ bigSepL all6 (fun i => posS c i 6) ∗ bigSepL all6 (fun i => posS c i 7) ∗ bigSepL all6 (fun i => posS c i 8)) := by
  unfold leavePos
  rw [bigSep_transfers (posS c)]
  simp only [show ∀ i, bigSepL all9 (posS (F := F) c i) = iprop(posS c i 0 ∗ posS c i 1 ∗ posS c i 2 ∗ posS c i 3 ∗ posS c i 4
    ∗ posS c i 5 ∗ posS c i 6 ∗ posS c i 7 ∗ posS c i 8) from fun _ => rfl, bigSepL_sep]
  exact BI.Entails.refl _

theorem wp_copies (l : List (Fin 6)) (Q : PUnit.{1} → sProp 𝕄) :
    iprop(recs xs K ∗ Shd xs c 0 ∗ bigSepL l (fun i => anyOwn c ((inst i).src c 0))
        ∗ ((Shd xs c 0 ∗ bigSepL l fun i => held c ((inst i).src c 0) fullShare (sent xs c i 0)) -∗ Q ⟨⟩)) ⊢ WP c (seq l fun i => copy (F := F) i c) Q :=
  wp_parts xs K c (fun i => copy i c) (fun _ => 0) 0 _ _ (fun i Q => by
    unfold Shd
    iintro ⟨-, ⟨HO, HX⟩, Hs, HQ⟩
    iapply (wp_copy xs c i)
    isplitl [HX]; · iexact HX
    isplitl [Hs]; · iexact Hs
    iintro ⟨HX, Hs⟩
    iapply HQ
    isplitl [HO HX]
    · isplitl [HO]; · iexact HO
      iexact HX
    · iexact Hs) l 0 0 (by omega) (fun j _ => by omega) Q

theorem wp_firstSends (Q : PUnit.{1} → sProp 𝕄) :
    iprop(recs xs K ∗ Shd xs c 0 ∗ bigSepL [0, 1, 2] (fun i => iprop(held c ((inst i).src c 0) fullShare (sent xs c i 0) ∗ toSend c i 0))
        ∗ ((Shd xs c 3 ∗ bigSepL [0, 1, 2] fun i => sentC c i 0) -∗ Q ⟨⟩)) ⊢ WP c (seq [0, 1, 2] fun i => send (F := F) i c 0) Q :=
  wp_parts xs K c (fun i => send i c 0) (fun i => i.val) 1 _ _ (fun i Q => by
    iintro ⟨#HR, HS, ⟨Hs, Ht⟩, HQ⟩
    iapply (wp_send xs K c i 0 (n := i.val) rfl rfl)
    isplitr; · iexact HR
    isplitl [HS]; · iexact HS
    isplitl [Hs]; · iexact Hs
    isplitl [Ht]; · iexact Ht
    iexact HQ) [0, 1, 2] 0 3 rfl (by decide) Q

theorem wp_nextSends (Q : PUnit.{1} → sProp 𝕄) :
    iprop(recs xs K ∗ Shd xs c 3 ∗ bigSepL [3, 4, 5] (fun i => iprop(anyOwn c ((inst i).src c 0) ∗ toSend c i 0))
        ∗ ((Shd xs c 6 ∗ bigSepL [3, 4, 5] fun i => sentC c i 0) -∗ Q ⟨⟩)) ⊢ WP c (seq [3, 4, 5] fun i => copySend (F := F) i c) Q :=
  wp_parts xs K c (fun i => copySend i c) (fun i => i.val) 1 _ _ (wp_copySend xs K c) [3, 4, 5] 3 6 rfl (by decide) Q

/-- The body's middle: from the fourth phase's end on, every part waits. -/
theorem wp_waitS_all (s : Fin 9) (Q : PUnit.{1} → sProp 𝕄) :
    iprop(recs xs K ∗ Shd xs c 54 ∗ (bigSepL all6 fun i => toLeave c i s)
        ∗ ((Shd xs c 54 ∗ bigSepL all6 fun i => iprop(semVal (sCell c i s) 0 ∗ sendPay xs c i s)) -∗ Q ⟨⟩)) ⊢ WP c (seq all6 fun i => waitS (F := F) i c s) Q :=
  wp_parts xs K c (fun i => waitS i c s) (fun _ => 54) 0 _ _ (fun i => wp_waitS xs K c i s) all6 54 54 rfl (fun j _ => by omega) Q
theorem wp_waitSs_all (ss : List (Fin 9)) (Q : PUnit.{1} → sProp 𝕄) :
    iprop(recs xs K ∗ Shd xs c 54 ∗ (bigSepL all6 fun i => bigSepL ss (toLeave c i))
        ∗ ((Shd xs c 54 ∗ bigSepL all6 fun i => bigSepL ss fun s => iprop(semVal (sCell c i s) 0 ∗ sendPay xs c i s)) -∗ Q ⟨⟩))
      ⊢ WP c (seq all6 fun i => seq ss fun s => waitS (F := F) i c s) Q :=
  wp_parts xs K c (fun i => seq ss fun s => waitS i c s) (fun _ => 54) 0 _ _ (fun i => wp_waitSs xs K c i ss) all6 54 54 rfl (fun j _ => by omega) Q
theorem wp_waitRs_all (Q : PUnit.{1} → sProp 𝕄) :
    iprop(recs xs K ∗ Shd xs c 54 ∗ (bigSepL all6 fun i => bigSepL [5, 6, 7, 8] (toRecv c i))
        ∗ ((Shd xs c 54 ∗ bigSepL all6 fun i => bigSepL [5, 6, 7, 8] fun s => iprop(semVal (rCell c i s) 0 ∗ recvPay xs c i s)) -∗ Q ⟨⟩))
      ⊢ WP c (seq all6 fun i => seq [5, 6, 7, 8] fun s => waitR (F := F) i c s) Q :=
  wp_parts xs K c (fun i => seq [5, 6, 7, 8] fun s => waitR i c s) (fun _ => 54) 0 _ _ (fun i => wp_waitRs xs K c i [5, 6, 7, 8]) all6 54 54 rfl
    (fun j _ => by omega) Q

theorem wp_ph2_all (Q : PUnit.{1} → sProp 𝕄) :
    iprop(recs xs K ∗ Shd xs c 6 ∗ (bigSepL all6 fun i => iprop(toRecv c i 0 ∗ anyOwn c ((inst i).src c 1) ∗ toSend c i 1 ∗ anyOwn c (accR i)))
        ∗ ((Shd xs c 12 ∗ bigSepL all6 fun i => iprop(semVal (rCell c i 0) 0 ∗ sentC c i 1 ∗ anyOwn c (rcvR i 0 4 (by decide))
          ∗ heldOn c (accR i) fullShare (fun t => t < 2) (aAll xs c i))) -∗ Q ⟨⟩)) ⊢ WP c (seq all6 fun i => ph2 (F := F) i c) Q :=
  wp_parts xs K c (fun i => ph2 i c) (fun i => 6 + i.val) 1 _ _ (fun i Q => wp_ph2 xs K c i) all6 6 12 rfl (by decide) Q

theorem wp_ph3_all (Q : PUnit.{1} → sProp 𝕄) :
    iprop(recs xs K ∗ Shd xs c 12 ∗ (bigSepL all6 fun i => iprop(toRecv c i 1 ∗ anyOwn c ((inst i).src c 2) ∗ toSend c i 2
          ∗ heldOn c (accR i) fullShare (fun t => t < 2) (aAll xs c i)))
        ∗ ((Shd xs c 18 ∗ bigSepL all6 fun i => iprop(semVal (rCell c i 1) 0 ∗ sentC c i 2 ∗ anyOwn c (rcvR i 4 2 (by decide))
          ∗ held c (accR i) fullShare (aAll xs c i))) -∗ Q ⟨⟩)) ⊢ WP c (seq all6 fun i => ph3 (F := F) i c) Q :=
  wp_parts xs K c (fun i => ph3 i c) (fun i => 12 + i.val) 1 _ _ (fun i Q => wp_ph3 xs K c i) all6 12 18 rfl (by decide) Q

theorem wp_ph4_all (Q : PUnit.{1} → sProp 𝕄) :
    iprop(recs xs K ∗ Shd xs c 18 ∗ (bigSepL all6 fun i => iprop(toRecv c i 2 ∗ toSend c i 3 ∗ toSend c i 4
          ∗ held c (accR i) fullShare (aAll xs c i) ∗ anyOwn c (oM i (grp i c 0 0 0)) ∗ anyOwn c (oM i (grp i c 0 0 1))))
        ∗ ((Shd xs c 30 ∗ bigSepL all6 fun i => iprop(semVal (rCell c i 2) 0 ∗ sentC c i 3 ∗ sentC c i 4 ∗ anyOwn c (rcvR i 6 2 (by decide)) ∗ anyOwn c (accR i)
          ∗ held c (oM i (grp i c 0 0 0)) fullShare.right (fun _ => fin8 xs c i 0) ∗ held c (oM i (grp i c 0 0 1)) fullShare.right (fun _ => fin8 xs c i 1))) -∗ Q ⟨⟩))
      ⊢ WP c (seq all6 fun i => ph4 (F := F) i c) Q :=
  wp_parts xs K c (fun i => ph4 i c) (fun i => 18 + 2 * i.val) 2 _ _ (fun i Q => wp_ph4 xs K c i) all6 18 30 rfl (by decide) Q

theorem wp_ph5_all (Q : PUnit.{1} → sProp 𝕄) :
    iprop(recs xs K ∗ Shd xs c 30 ∗ (bigSepL all6 fun i => iprop(toRecv c i 3 ∗ toRecv c i 4 ∗ toSend c i 5 ∗ toSend c i 6 ∗ toSend c i 7 ∗ toSend c i 8
          ∗ held c (oM i (grp i c 0 0 0)) fullShare.right (fun _ => fin8 xs c i 0) ∗ held c (oM i (grp i c 0 0 1)) fullShare.right (fun _ => fin8 xs c i 1)))
        ∗ ((Shd xs c 54 ∗ bigSepL all6 fun i => iprop(semVal (rCell c i 3) 0 ∗ semVal (rCell c i 4) 0 ∗ sentC c i 5 ∗ sentC c i 6 ∗ sentC c i 7 ∗ sentC c i 8)) -∗ Q ⟨⟩))
      ⊢ WP c (seq all6 fun i => ph5 (F := F) i c) Q :=
  wp_parts xs K c (fun i => ph5 i c) (fun i => 30 + 4 * i.val) 4 _ _ (fun i Q => wp_ph5 xs K c i) all6 30 54 rfl (by decide) Q

omit [FloatOps F] in
theorem bigSepL_list2 (a b : Fin 9) (Φ : Fin 9 → sProp 𝕄) : bigSepL [a, b] Φ = iprop(Φ a ∗ Φ b) := rfl
omit [FloatOps F] in
theorem bigSepL_list4 (a b e f : Fin 9) (Φ : Fin 9 → sProp 𝕄) : bigSepL [a, b, e, f] Φ = iprop(Φ a ∗ Φ b ∗ Φ e ∗ Φ f) := rfl

/-- The body runs from its start to its end. -/
theorem sound_body (Q : PUnit.{1} → sProp 𝕄) :
    iprop(recs xs K ∗ bodyStart xs c ∗ (bodyEnd xs c -∗ Q ⟨⟩)) ⊢ WP c (bodyAt (F := F) c) Q := by
  unfold bodyAt
  simp only [WP_bind]
  unfold bodyStart partPre
  simp only [bigSepL_sep]
  rw [bigSepL_halves fun i => anyOwn c ((inst i).src c 0)]
  iintro ⟨#HR, ⟨HO, HX, ⟨⟨Hs0a, Hs0b⟩, Hs1, Hs2, Ha, Ho0, Ho1⟩, Hl, ⟨Ht0, Ht1, Ht2, Hbc, Hba⟩, Htk, Hrv, Hlv⟩, HQ⟩
  ihave Hl := (lent_split c) $$ Hl
  icases Hl with ⟨Hb0, Hb1, Hb2⟩
  ihave Hrv := (recvs_ready c) $$ Hrv
  icases Hrv with ⟨Hr0, Hr1, Hr2, Hr3, Hr4, Hr5⟩
  ihave Hlv := (leaves_ready c) $$ Hlv
  icases Hlv with ⟨Hp0, Hp1, Hp2, Hp3, Hp4, Hp5, Hp6, Hp7, Hp8⟩
  unfold Ow₀
  iapply (wp_sig xs K c 0 _ (dev1_eq c) (Ow c 0 + tallyAt (bCell (nbr 2 c)) () 1 + tallyAt (bCell (nbr 1 c)) () 1))
  isplitr; · iexact HR
  isplitl [HO]; · iexact HO
  isplitl [Ht0]; · iexact Ht0
  isplitl [Hb0]; · iexact Hb0
  iintro HO
  iapply (wp_sig xs K c 1 _ (dev2_eq c) (Ow c 0 + tallyAt (bCell (nbr 2 c)) () 1))
  isplitr; · iexact HR
  isplitl [HO]; · iexact HO
  isplitl [Ht1]; · iexact Ht1
  isplitl [Hb1]; · iexact Hb1
  iintro HO
  iapply (wp_sig xs K c 2 _ (dev3_eq c) (Ow c 0))
  isplitr; · iexact HR
  isplitl [HO]; · iexact HO
  isplitl [Ht2]; · iexact Ht2
  isplitl [Hb2]; · iexact Hb2
  iintro HO
  ihave HSh := (show iprop((∃ W, owes (c : Thread nD τ) (Ow c 0) W) ∗ xPts xs c) ⊢ Shd (F := F) xs c 0 from by unfold Shd owesN; exact BI.Entails.refl _) $$ [HO HX]
  · isplitl [HO]; · iexact HO
    iexact HX
  iapply (wp_copies xs K c [0, 1, 2])
  isplitr; · iexact HR
  isplitl [HSh]; · iexact HSh
  isplitl [Hs0a]; · iexact Hs0a
  iintro ⟨HSh, Hs0a⟩
  unfold Shd
  icases HSh with ⟨HO, HX⟩
  iapply (wp_gate xs K c)
  isplitr; · iexact HR
  isplitl [HO]; · iexact HO
  isplitl [Hbc]; · iexact Hbc
  isplitl [Hba]; · iexact Hba
  iintro ⟨HO, HzB, Hld⟩
  ihave HSh := (show iprop(owesN (F := F) c 0 ∗ xPts xs c) ⊢ Shd (F := F) xs c 0 from by unfold Shd; exact BI.Entails.refl _) $$ [HO HX]
  · isplitl [HO]; · iexact HO
    iexact HX
  ihave Hsd := (sends_ready c) $$ [Hld Htk]
  · isplitl [Hld]; · iexact Hld
    iexact Htk
  rw [bigSepL_halves fun i => toSend c i 0]
  simp only [bigSepL_sep]
  icases Hsd with ⟨⟨Hd0a, Hd0b⟩, Hd1, Hd2, ⟨Hd3, Hd4⟩, Hd5, Hd6, Hd7, Hd8⟩
  iapply (wp_firstSends xs K c)
  isplitr; · iexact HR
  isplitl [HSh]; · iexact HSh
  isplitl [Hs0a Hd0a]
  · simp only [bigSepL_sep]
    isplitl [Hs0a]; · iexact Hs0a
    iexact Hd0a
  iintro ⟨HSh, Hc0a⟩
  iapply (wp_nextSends xs K c)
  isplitr; · iexact HR
  isplitl [HSh]; · iexact HSh
  isplitl [Hs0b Hd0b]
  · simp only [bigSepL_sep]
    isplitl [Hs0b]; · iexact Hs0b
    iexact Hd0b
  iintro ⟨HSh, Hc0b⟩
  ihave Hc0 := (Entails.of_eq (bigSepL_halves fun i => sentC (F := F) c i 0).symm) $$ [Hc0a Hc0b]
  · isplitl [Hc0a]; · iexact Hc0a
    iexact Hc0b
  iapply (wp_ph2_all xs K c)
  isplitr; · iexact HR
  isplitl [HSh]; · iexact HSh
  isplitl [Hr0 Hs1 Hd1 Ha]
  · simp only [bigSepL_sep]
    isplitl [Hr0]; · iexact Hr0
    isplitl [Hs1]; · iexact Hs1
    isplitl [Hd1]; · iexact Hd1
    iexact Ha
  simp only [bigSepL_sep]
  iintro ⟨HSh, ⟨Hz0, Hc1, Hv0, Ha⟩⟩
  iapply (wp_ph3_all xs K c)
  isplitr; · iexact HR
  isplitl [HSh]; · iexact HSh
  isplitl [Hr1 Hs2 Hd2 Ha]
  · simp only [bigSepL_sep]
    isplitl [Hr1]; · iexact Hr1
    isplitl [Hs2]; · iexact Hs2
    isplitl [Hd2]; · iexact Hd2
    iexact Ha
  simp only [bigSepL_sep]
  iintro ⟨HSh, ⟨Hz1, Hc2, Hv1, Ha⟩⟩
  iapply (wp_ph4_all xs K c)
  isplitr; · iexact HR
  isplitl [HSh]; · iexact HSh
  isplitl [Hr2 Hd3 Hd4 Ha Ho0 Ho1]
  · simp only [bigSepL_sep]
    isplitl [Hr2]; · iexact Hr2
    isplitl [Hd3]; · iexact Hd3
    isplitl [Hd4]; · iexact Hd4
    isplitl [Ha]; · iexact Ha
    isplitl [Ho0]; · iexact Ho0
    iexact Ho1
  simp only [bigSepL_sep]
  iintro ⟨HSh, ⟨Hz2, Hc3, Hc4, Hv2, Ha, Ho0, Ho1⟩⟩
  iapply (wp_ph5_all xs K c)
  isplitr; · iexact HR
  isplitl [HSh]; · iexact HSh
  isplitl [Hr3 Hr4 Hd5 Hd6 Hd7 Hd8 Ho0 Ho1]
  · simp only [bigSepL_sep]
    isplitl [Hr3]; · iexact Hr3
    isplitl [Hr4]; · iexact Hr4
    isplitl [Hd5]; · iexact Hd5
    isplitl [Hd6]; · iexact Hd6
    isplitl [Hd7]; · iexact Hd7
    isplitl [Hd8]; · iexact Hd8
    isplitl [Ho0]; · iexact Ho0
    iexact Ho1
  simp only [bigSepL_sep]
  iintro ⟨HSh, ⟨Hz3, Hz4, Hc5, Hc6, Hc7, Hc8⟩⟩
  iapply (wp_waitRs_all xs K c)
  isplitr; · iexact HR
  isplitl [HSh]; · iexact HSh
  isplitl [Hr5]
  · iexact Hr5
  iintro ⟨HSh, HR5⟩
  iapply (wp_waitS_all xs K c 0)
  isplitr; · iexact HR
  isplitl [HSh]; · iexact HSh
  isplitl [Hc0 Hp0]
  · simp only [toLeave, bigSepL_sep]
    isplitl [Hc0]; · iexact Hc0
    iexact Hp0
  iintro ⟨HSh, HS0⟩
  iapply (wp_waitS_all xs K c 1)
  isplitr; · iexact HR
  isplitl [HSh]; · iexact HSh
  isplitl [Hc1 Hp1]
  · simp only [toLeave, bigSepL_sep]
    isplitl [Hc1]; · iexact Hc1
    iexact Hp1
  iintro ⟨HSh, HS1⟩
  iapply (wp_waitS_all xs K c 2)
  isplitr; · iexact HR
  isplitl [HSh]; · iexact HSh
  isplitl [Hc2 Hp2]
  · simp only [toLeave, bigSepL_sep]
    isplitl [Hc2]; · iexact Hc2
    iexact Hp2
  iintro ⟨HSh, HS2⟩
  iapply (wp_waitSs_all xs K c [3, 4])
  isplitr; · iexact HR
  isplitl [HSh]; · iexact HSh
  isplitl [Hc3 Hp3 Hc4 Hp4]
  · simp only [bigSepL_list2, toLeave, bigSepL_sep]
    isplitl [Hc3 Hp3]
    · isplitl [Hc3]; · iexact Hc3
      iexact Hp3
    isplitl [Hc4]; · iexact Hc4
    iexact Hp4
  iintro ⟨HSh, HS3⟩
  iapply (wp_waitSs_all xs K c [5, 6, 7, 8])
  isplitr; · iexact HR
  isplitl [HSh]; · iexact HSh
  isplitl [Hc5 Hp5 Hc6 Hp6 Hc7 Hp7 Hc8 Hp8]
  · simp only [bigSepL_list4, toLeave, bigSepL_sep]
    isplitl [Hc5 Hp5]
    · isplitl [Hc5]; · iexact Hc5
      iexact Hp5
    isplitl [Hc6 Hp6]
    · isplitl [Hc6]; · iexact Hc6
      iexact Hp6
    isplitl [Hc7 Hp7]
    · isplitl [Hc7]; · iexact Hc7
      iexact Hp7
    isplitl [Hc8]; · iexact Hc8
    iexact Hp8
  iintro ⟨HSh, HS5⟩
  iapply HQ
  unfold bodyEnd Shd owesN
  rw [Ow_end]
  icases HSh with ⟨HO, HX⟩
  isplitl [HO]; · iexact HO
  isplitl [HX]; · iexact HX
  isplitl [HzB]; · iexact HzB
  iapply (bigSepL_mono (fun i _ => part_end xs c i))
  simp only [bigSepL_sep]
  isplitl [Hz0 Hz1 Hz2 Hz3 Hz4]
  · isplitl [Hz0]; · iexact Hz0
    isplitl [Hz1]; · iexact Hz1
    isplitl [Hz2]; · iexact Hz2
    isplitl [Hz3]; · iexact Hz3
    iexact Hz4
  isplitl [Hv0 Hv1 Hv2 Ha]
  · isplitl [Hv0]; · iexact Hv0
    isplitl [Hv1]; · iexact Hv1
    isplitl [Hv2]; · iexact Hv2
    iexact Ha
  isplitl [HR5]; · iexact HR5
  isplitl [HS0]; · iexact HS0
  isplitl [HS1]; · iexact HS1
  isplitl [HS2]; · iexact HS2
  isplitl [HS3]; · iexact HS3
  iexact HS5

end Body

end Cert.KernelIdeal.AR

end
-- ==== Proof.ProgEq.lean ====
/-
# The printed body is the steps of `Prog`
-/
module

public import proofs.«01_k».proof.Proof.Prog

@[expose] public section

noncomputable section

namespace Cert.KernelIdeal.AR

open Cert.KernelIdeal Cert.KernelIdeal.Gen
open Idealize.ShloMosaic Idealize.SL.Sem

variable {F : FTy → Type} [FloatOps F]

set_option maxRecDepth 1000000 in
/-- The printed body, on the staging and scratch buffers it is called with, is `body`. -/
theorem body_eq : cc0_body (F := F) X (Memref.isWhole_whole _) O (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 = body (F := F) := by
  sl_kernel_rfl

end Cert.KernelIdeal.AR

end
-- ==== Proof.Launch.lean ====
/-
# The run

The body as the launch calls it, and the launch: every fair execution from any memory ends, with each device's result at
`outAt`, its argument as it was, and every semaphore at zero.
-/
module

public import proofs.«01_k».proof.Proof.Fund
public import Idealize.ShloMosaic.Lib.Pipeline.CollectiveSegs
public import proofs.«01_k».proof.Proof.Body
public import proofs.«01_k».proof.Proof.ProgEq
public import proofs.«01_k».proof.Proof.Gen.KernelIdeal.Points
public import proofs.«01_k».proof.Proof.Gen.KernelIdeal.Frame

@[expose] public section

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

section Run

variable (m : (ℓ : Loc nD τ sig) → Buf (Elt F) ℓ) (ρ : Dev nD → PrngReg)

/-- The memory at launch: any contents, every semaphore zero, any generator registers. -/
def st₀ : MemSt nD τ sig (Elt F) := ⟨m, fun _ => 0, ρ⟩

/-- The input blocks as launched. -/
def xin (c : Dev nD) : (X).view.ty.Contents (Elt F) := (win0_0.blk (0 : Fin 1)).view.read (Elt F) (m ((c : Thread nD τ).loc main_arg0))

/-- What the body finds beside its windows, -/
def start (c : Dev nD) : sProp 𝕄 :=
  iprop(G' (xin m) c ∗ (cred (tallyAt (bCell c) () 3) ∗ bigSep Finset.univ fun p : Fin 6 × Fin 9 => cred (tallyAt (rCell c p.1 p.2) () (amt p.1 p.2)))
    ∗ levAts LL lev)
def Φ₀ (c : Dev nD) : sProp 𝕄 := iprop(start m c ∗ bigSepL all6 (scr c))
/-- and what it leaves. -/
def Φ₁ (c : Dev nD) : sProp 𝕄 :=
  iprop(bigSepL all6 (scr c) ∗ ((bigSep Finset.univ fun p : Fin 6 × Fin 9 => semVal (sCell c p.1 p.2) 0) ∗ bigSep Finset.univ fun p : Fin 6 × Fin 9 => semVal (rCell c p.1 p.2) 0)
    ∗ semVal (bCell c) 0)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xin m c
    | ⟨1, _⟩ => outAt (xin m) c
  Φ t := match t with
    | ⟨0, _⟩ => Φ₀ m c
    | ⟨_ + 1, _⟩ => Φ₁ c
  q _ := fullShare
  owed t := match t with
    | ⟨0, _⟩ => Ow₀ c
    | ⟨_ + 1, _⟩ => 0

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer holding `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ (F := F) c ∗ (dats m ρ 0 c).owesAt () t0_0.succ ∗ stg c cc0_stg0_0 (xin m c) ∗ stg c cc0_stg1_0 (outAt (xin m) c))

omit [FloatOps F] in
theorem xPts_eq (xs : Dev nD → (X).view.ty.Contents (Elt F)) (c : Dev nD) :
    xPts xs c = (((c : Thread nD τ).loc cc0_stg0_0) ↦{fullShare} xs c : sProp 𝕄) := by
  unfold xPts; rw [View.set_whole]

omit [FloatOps F] in
theorem oPts_eq (c : Dev nD) (f : (O).view.ty.Contents (Elt F)) :
    ((O).view.loc (c : Thread nD τ) ↦[(O).view.set]{fullShare} f : sProp 𝕄) = (((c : Thread nD τ).loc cc0_stg1_0) ↦{fullShare} f) := by
  rw [View.set_whole]

/-- What is the device's alone, sorted for the body. -/
theorem mine_split (c : Dev nD) :
    iprop(mine (F := F) c ∗ (cred (tallyAt (bCell c) () 3) ∗ bigSep Finset.univ fun p : Fin 6 × Fin 9 => cred (tallyAt (rCell c p.1 p.2) () (amt p.1 p.2))))
    ⊢ iprop((dutyTok ER (bCell (nbr 0 c)) 0 0 ∗ dutyTok ER (bCell (nbr 1 c)) 0 1 ∗ dutyTok ER (bCell (nbr 2 c)) 0 2
      ∗ cred (tallyAt (bCell c) () 3) ∗ atPos ER (bCell c) 0 ∅ 0) ∗ sendToks c ∗ recvToks c ∗ leavePos c) := by
  unfold mine payToks recvToks toRecv leavePos
  rw [bigSep_kd, bigSep_xfer, bigSep_sep']
  iintro ⟨⟨⟨⟨HS, HR⟩, HB⟩, ⟨T0, T1, T2⟩, HT⟩, HC, HCr⟩
  isplitl [T0 T1 T2 HC HB]
  · isplitl [T0]; · iexact T0
    isplitl [T1]; · iexact T1
    isplitl [T2]; · iexact T2
    isplitl [HC]; · iexact HC
    iexact HB
  isplitl [HT]; · iexact HT
  isplitl [HCr HR]
  · isplitl [HCr]; · iexact HCr
    iexact HR
  iexact HS

/-- The body, from what the launch gives it to what the launch wants back. -/
theorem body_run (c : Dev nD) : bodyPre m ρ c ⊢ WP c (body (F := F)) fun _ => bodyPost m ρ c := by
  unfold body
  rw [WP_bind]
  simp only [Prog.lift, wp_deviceId, wp_ret]
  unfold bodyPre Φ₀ start G'
  iintro ⟨⟨⟨⟨%K, #Hsh, Hm⟩, Hcr, #Hlev⟩, Hscr⟩, Ho, ⟨%d0, %g0, %hg0, Hx⟩, ⟨%d1, %g1, %hg1, Hout⟩⟩
  have hx : g0 = xin m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = Ow₀ c from rfl]
  ihave Hm := (mine_split c) $$ [Hm Hcr]
  · isplitl [Hm]; · iexact Hm
    iexact Hcr
  icases Hm with ⟨HB, HT, HR, HL⟩
  ihave HA := (regions_start c) $$ [Hscr Hout]
  · isplitl [Hscr]; · iexact Hscr
    iexists g1; rw [oPts_eq]; iexact Hout
  icases HA with ⟨HP, HLent⟩
  iapply (fupd_intro)
  iapply (sound_body (xin m) K c)
  isplitr
  · unfold recs shared
    icases Hsh with ⟨H1, H2⟩
    isplitr; · iexact H1
    isplitr; · iexact H2
    iexact Hlev
  isplitr []
  · unfold bodyStart
    isplitl [HO]; · iexists W; iexact HO
    isplitl [Hx]; · rw [xPts_eq]; iexact Hx
    isplitl [HP]; · iexact HP
    isplitl [HLent]; · iexact HLent
    isplitl [HB]; · iexact HB
    isplitl [HT]; · iexact HT
    isplitl [HR]; · iexact HR
    iexact HL
  unfold bodyEnd
  iintro ⟨⟨%W', HO⟩, Hx, HB, HP⟩
  ihave HP := (regions_end (xin m) c) $$ HP
  icases HP with ⟨HR, HS, Hscr, Hout⟩
  unfold bodyPost Φ₁ Dat.owesAt Pipeline.owesWithin
  rw [show (dats m ρ 0 c).owed t0_0.succ = 0 from rfl]
  isplitl [HR HS Hscr HB]
  · isplitl [Hscr]; · iexact Hscr
    isplitl [HR HS]
    · isplitl [HS]
      · rw [bigSep_transfers fun i s => semVal (sCell c i s) 0]; iexact HS
      rw [bigSep_transfers fun i s => semVal (rCell c i s) 0]; iexact HR
    iexact HB
  isplitl [HO]
  · iexists W'
    isplitr; · ipureintro; exact fun _ _ => Or.inl trivial
    iexact HO
  isplitl [Hx]
  · iexists _; isplitr; · (ipureintro; rfl)
    iapply (Entails.of_eq (xPts_eq (xin m) c)); iexact Hx
  iexists _; isplitr; · (ipureintro; rfl)
  iapply (Entails.of_eq (oPts_eq c _)); iexact Hout

set_option maxRecDepth 20000 in
/-- The launch's obligation of the body. -/
theorem body_obligation (c : Dev nD) : BodyObligation (dats (F := F) m ρ 0 c) (defs₀ (F := F)) 𝒱₀ () Set.univ := fun t => by
  rw [fin_N0 t]
  rw [bigSep_W0, bigSep_W0]
  have h := body_run m ρ c
  rw [← body_eq] at h
  unfold bodyPre bodyPost stg at h
  simp only [← owns_whole_eq] at h
  exact h

theorem ownSemFacts : Pipeline.OwnSemFacts cfg0.spec osem where
  isScoped := by decide
  inj := fun p q h => Option.some.inj (csem_injective h)
  disj := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts LL lev
        ∗ Pipeline.launchCred Ow₀ c ∗ prngReg c (ρ c) ∗ G' (xin m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_split c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq, bigSep_xfer]
  unfold Φ₁
  iintro ⟨Hr, Hz, HzB⟩
  isplitl [HzB]; · iexact HzB
  isplitl [Hz]; · iexact Hz
  iapply (scratch_join c); iexact Hr

theorem waits (c : Dev nD) : (levAts LL lev : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The arrays after the run. -/
def finalA (c : Dev nD) (w : Fin cfg0.W) : Buf (Elt F) ((cfg0.win w).arr.view.loc (c : Thread nD τ)) := (dats m ρ 0 c).arrAt w cfg0.N

set_option maxRecDepth 40000 in
/-- Every fair execution ends with the arrays at `finalA` and every semaphore at zero. -/
theorem run_arrays : θ_run defs (onTc (τ := τ) (main (F := F))) (st₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := Ow₀) (howed₀ := fun _ => rfl) (howedN := fun _ => rfl)
    (L := LL) (lv := lev) (hL := LL_of_ne) (hwaits := waits m ρ)
    (G := G (xin m)) (G' := G' (xin m)) (u₀ := u₀)
    (hu₀ := by
      unfold u₀
      iintro Hu
      ihave H := (ownU_pair _ _) $$ Hu
      icases H with ⟨HP, HX⟩
      imod (fund_all (xin m)) $$ HX with HG
      imodintro
      isplitl [HP] <;> iassumption)
    (hglob := glob (xin m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is as it was. -/
theorem finalA_x (c : Dev nD) : finalA m ρ c (0 : Fin 2) = m (win0_0.arr.view.loc (c : Thread nD τ)) :=
  (dats (F := F) m ρ 0 c).arrAt_in (0 : Fin 2) rfl _

/-- The result's array holds `outAt`. -/
theorem finalA_o (c : Dev nD) : (win0_1.blk (0 : Fin 1)).view.read (Elt F) (finalA m ρ c (1 : Fin 2)) = outAt (xin m) c := by
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- Every fair execution ends with each device's result at `outAt`, its argument unchanged and every semaphore at zero. -/
theorem run_main : θ_run defs (onTc (τ := τ) (main (F := F))) (st₀ m ρ)
    (fun r => (∀ c : Dev nD, r.2.mem ((c : Thread nD τ).loc main_v1) = outAt (xin m) c
      ∧ r.2.mem ((c : Thread nD τ).loc main_arg0) = m ((c : Thread nD τ).loc main_arg0)) ∧ r.2.sem = fun _ => 0) :=
  (θ_run defs _ _).mono (fun r h => ⟨fun c => ⟨(h.1 c (1 : Fin 2)).trans (by
    have hz : (fun a => (win0_1.index (0 : Fin 1)) a * main_v1.ty.shape.size a) = fun _ => 0 := funext fun a => by fin_cases a <;> decide
    have ho := finalA_o m ρ c
    rwa [show (win0_1.blk (0 : Fin 1)).view.read (Elt F) (finalA m ρ c (1 : Fin 2)) = finalA m ρ c (1 : Fin 2) from
      Memref.read_access_unit_zero (Elt F) main_v1 hz (fun a => by fin_cases a <;> decide) _] at ho),
    (h.1 c (0 : Fin 2)).trans (finalA_x m ρ c)⟩, h.2⟩) (run_arrays m ρ)

/-- The block the body finds is the whole argument. -/
theorem xin_eq (c : Dev nD) : xin m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

end Run

end Cert.KernelIdeal.AR

end
-- ==== Proof.Value.lean ====
/-
# The result in exact arithmetic

Over the extended reals a change of format is the identity and addition is associative and commutative. A finished group
is then the sum, over all eight devices, of the same group of their inputs; so every device's result is the reference's
array.
-/
module

public import proofs.«01_k».proof.Proof.Own
public import proofs.«01_k».proof.Proof.Phases
public import Idealize.ShloMosaic.Lib.Pointwise
public import Idealize.ShloMosaic.Lib.Layout
public import proofs.«01_k».proof.Proof.Gen.ReferenceIdeal

@[expose] public section

noncomputable section

namespace Cert.KernelIdeal.AR

open Cert.KernelIdeal Cert.KernelIdeal.Gen
open Idealize.ShloMosaic
open Idealize.ShloMosaic.TcCoe
open Idealize.SL.Sem

/-! ## The devices a group is summed over -/

/-- From a device, the bits of a group lead to every device once. -/
theorem grp_bijective (i : Fin 6) (d : Dev nD) : Function.Bijective fun p : Fin 2 × Fin 2 × Fin 2 => (grp i d p.1 p.2.1 p.2.2 : Dev nD) := by
  revert i d; decide +kernel

/-- A sum over all devices, by the bits that lead to them from `d`. -/
theorem sum_devs (i : Fin 6) (d : Dev nD) (f : Dev nD → EReal) :
    ∑ c, f c = ∑ e : Fin 2, ∑ b : Fin 2, ∑ a : Fin 2, f (grp i d a b e) := by
  rw [← (grp_bijective i d).sum_comp f, Fintype.sum_prod_type]
  simp only [Fintype.sum_prod_type]
  rw [Finset.sum_comm]
  simp only [Fin.sum_univ_two]
  ac_rfl

/-! ## Groups of the input -/

/-- Where a place in group `k` of part `i` lies in the array. -/
abbrev gIx (i : Fin 6) (k : Fin 8) (x : (Sh1 (inst i).rc).Idx) : S2048x512.Idx :=
  (Rect.unit (s := S2048x512) (org i k) ![(inst i).rc, 256] (fun a => by
    have := org_inb i k a; rw [Nat.one_mul] at this; exact this)).emb x

variable (xs : Dev nD → S2048x512.Idx → EReal)

/-- A group of the input at a place. -/
theorem xv_apply (c : Dev nD) (i : Fin 6) (a b e : Fin 2) (x : (Sh1 (inst i).rc).Idx) :
    xv (F := Ideal) xs c i a b e x = xs c (gIx i (grp i c a b e) x) := by
  have h : ∀ (off : Fin 2 → Nat) (inb : ∀ ax, off ax + (![(inst i).rc, 256] : Fin 2 → Nat) ax ≤ S2048x512.size ax), off = org i (grp i c a b e) →
      (X.access (Rect.unit (s := S2048x512) off ![(inst i).rc, 256] inb)).read (Elt Ideal) (xs c) x = xs c (gIx i (grp i c a b e) x) := by
    intro off inb h; subst h; rfl
  exact h _ _ (xoff_eq i c a b e)

theorem cst_apply {rc : Nat} {e : EltTy} (v : Blk Ideal rc e) (x : (Sh1 rc).Idx) : cst (F := Ideal) v x = v x := by
  rw [cst, shapeCast_self]

theorem sum2_apply {rc : Nat} (x r : Blk Ideal rc .bf16) (j : (Sh1 rc).Idx) : (sum2 (F := Ideal) x r j : EReal) = (x j : EReal) + (r j : EReal) := by
  show (cst (F := Ideal) x j : EReal) + (r j : EReal) = _
  rw [cst_apply]

theorem acc2_apply {rc : Nat} (a : Blk Ideal rc .f32) (r : Blk Ideal rc .bf16) (j : (Sh1 rc).Idx) :
    (acc2 (F := Ideal) a r j : EReal) = (a j : EReal) + (r j : EReal) := rfl

theorem rnd_apply {rc : Nat} (a : Blk Ideal rc .f32) (j : (Sh1 rc).Idx) : (rnd (F := Ideal) a j : EReal) = (a j : EReal) := rfl

/-- The group that a neighbour's value belongs to is the receiver's own. -/
theorem grp_nbr0 (i : Fin 6) (c : Dev nD) (b t : Fin 2) : grp i (tgt i 0 c) 1 b t = grp i c 0 b t := by revert i c b t; decide +kernel
theorem grp_nbr1 (i : Fin 6) (c : Dev nD) (t : Fin 2) : grp i (tgt i 1 c) 0 1 t = grp i c 0 0 t := by revert i c t; decide +kernel
theorem grp_nbr2 (i : Fin 6) (c : Dev nD) (t : Fin 2) : grp i (tgt i 2 c) 0 0 (1 - t) = grp i c 0 0 t := by revert i c t; decide +kernel
theorem grp_grp (i : Fin 6) (c : Dev nD) (a b e : Fin 2) : grp i (grp i c a b 0) 0 0 e = grp i c a b e := by revert i c a b e; decide +kernel

/-- The devices that bits lead to. -/
theorem grp_tgt2 (i : Fin 6) (c : Dev nD) (a b : Fin 2) : (grp i (tgt i 2 c) a b 0 : Dev nD) = grp i c a b 1 := by revert i c a b; decide +kernel
theorem tgt0_grp (i : Fin 6) (c : Dev nD) : tgt i 0 c = grp i c 1 0 0 := by revert i c; decide +kernel
theorem tgt1_grp (i : Fin 6) (c : Dev nD) : tgt i 1 c = grp i c 0 1 0 := by revert i c; decide +kernel
theorem tgt01_grp (i : Fin 6) (c : Dev nD) : tgt i 0 (tgt i 1 c) = grp i c 1 1 0 := by revert i c; decide +kernel

/-- The bits of the numbers used. -/
theorem bit0 (t : Fin 2) : bit t.val = t ∧ bit (0 + t.val) = t ∧ bit ((0 + t.val) / 2) = 0 := by revert t; decide
theorem bit2 (t : Fin 2) : bit (2 + t.val) = t ∧ bit ((2 + t.val) / 2) = 1 := by revert t; decide
theorem one_sub (t : Fin 2) : 1 - t.val = (1 - t : Fin 2).val := by revert t; decide

section Sums

variable (c : Dev nD) (i : Fin 6) (t : Fin 2) (x : (Sh1 (inst i).rc).Idx)

/-- A device's value at the group, as a value of exact arithmetic. -/
abbrev at' (d : Dev nD) : EReal := xs d (gIx i (grp i c 0 0 t) x)

theorem v0_lo : v0 (F := Ideal) xs (tgt i 0 c) i (0 + t.val) x = at' xs c i t x (grp i c 1 0 0) := by
  unfold v0
  rw [cst_apply, cst_apply, xv_apply, (bit0 t).2.1, (bit0 t).2.2, grp_nbr0, tgt0_grp]

theorem v0_hi : v0 (F := Ideal) xs (tgt i 0 (tgt i 1 c)) i (2 + t.val) x = at' xs c i t x (grp i c 1 1 0) := by
  unfold v0
  rw [cst_apply, cst_apply, xv_apply, (bit2 t).1, (bit2 t).2, grp_nbr0, grp_nbr1, tgt01_grp]

theorem v1_at : v1 (F := Ideal) xs (tgt i 1 c) i t.val x = at' xs c i t x (grp i c 0 1 0) + at' xs c i t x (grp i c 1 1 0) := by
  unfold v1
  rw [cst_apply]
  refine (rnd_apply _ x).trans ((sum2_apply _ _ x).trans (congrArg₂ (· + ·) ?_ (v0_hi xs c i t x)))
  rw [xv_apply, (bit0 t).1, grp_nbr1, tgt1_grp]

theorem a2_at : a2 (F := Ideal) xs c i t.val x = at' xs c i t x c + at' xs c i t x (grp i c 1 0 0) := by
  unfold a2
  rw [cst_apply]
  refine (sum2_apply _ _ x).trans (congrArg₂ (· + ·) ?_ (v0_lo xs c i t x))
  rw [xv_apply, (bit0 t).1]

/-- A sum of four. -/
theorem a4_at : a4 (F := Ideal) xs c i t.val x = ∑ b : Fin 2, ∑ a : Fin 2, at' xs c i t x (grp i c a b 0) := by
  rw [Fin.sum_univ_two, Fin.sum_univ_two, Fin.sum_univ_two]
  exact (acc2_apply _ _ x).trans (congrArg₂ (· + ·) (a2_at xs c i t x) (v1_at xs c i t x))

theorem v2_at : v2 (F := Ideal) xs (tgt i 2 c) i t.val x = ∑ b : Fin 2, ∑ a : Fin 2, at' xs c i t x (grp i c a b 1) := by
  unfold v2
  rw [cst_apply, one_sub]
  refine (rnd_apply _ x).trans ((a4_at xs (tgt i 2 c) i (1 - t) x).trans ?_)
  refine Finset.sum_congr rfl fun b _ => Finset.sum_congr rfl fun a _ => ?_
  show xs _ (gIx i _ x) = xs _ (gIx i _ x)
  rw [grp_nbr2, grp_tgt2]

/-- A finished group is the sum of that group over all devices. -/
theorem fin8_at : fin8 (F := Ideal) xs c i t.val x = ∑ d, at' xs c i t x d := by
  rw [sum_devs i c, Fin.sum_univ_two]
  refine (rnd_apply _ x).trans ((acc2_apply _ _ x).trans (congrArg₂ (· + ·) ?_ (v2_at xs c i t x)))
  rw [aAll_hi, cst_apply]
  exact a4_at xs c i t x

end Sums

/-! ## The reference's array -/

/-- The sum of the devices' arrays, at a place. -/
def total (y : S2048x512.Idx) : EReal := ∑ d, xs d y

theorem zero_off (rc : Nat) (off : Fin 2 → Nat) (a : Fin 2) : off a = off a + (![0 * rc, 0] : Fin 2 → Nat) a := by
  fin_cases a <;> simp

/-- A group of an array of the result's shape, at a place. -/
theorem rd_oM (i : Fin 6) (k : Fin 8) (h : 0 < 1) (f : S2048x512.Idx → EReal) (x : (Sh1 (inst i).rc).Idx) :
    rdC (F := Ideal) (oM i k).view 0 h f x = f (gIx i k x) := by
  show f ((rcs (k := 1) (rc := (inst i).rc) (org_inb i k)).emb ((chk 1 (inst i).rc 0 h).emb x)) = _
  congr 1
  funext a
  apply Fin.ext
  show org i k a + 1 * ((![0 * (inst i).rc, 0] : Fin 2 → Nat) a + 1 * (x a).val) = org i k a + 1 * (x a).val
  rw [Nat.one_mul, Nat.one_mul, ← Nat.add_assoc, ← zero_off]

theorem total_group (c : Dev nD) (q : Gp) (h : 0 < 1) : rdC (F := Ideal) (gM c q).view 0 h (total xs) = gV (F := Ideal) xs c q 0 := by
  obtain ⟨i, a, b, e⟩ := q
  funext x
  refine (rd_oM i (grp i c a b e) h (total xs) x).trans (Eq.trans ?_ (fin8_at xs (grp i c a b 0) i e x).symm)
  show ∑ d, xs d (gIx i (grp i c a b e) x) = ∑ d, xs d (gIx i (grp i (grp i c a b 0) 0 0 e) x)
  rw [grp_grp]

/-- The sum holds the finished groups. -/
theorem outAt_holds (c : Dev nD) (q : Gp) : HoldsOn (F := Ideal) (gM c q).view (fun _ => True) (gV (F := Ideal) xs c q) (total xs) := by
  intro t ht _
  obtain rfl : t = 0 := Nat.lt_one_iff.mp ht
  exact total_group xs c q ht

/-- Every device's result is the sum of the devices' arrays. -/
theorem outAt_total (c : Dev nD) : outAt (F := Ideal) xs c = total xs := by
  apply out_ext (F := Ideal) c (vals := gV (F := Ideal) xs c)
  · exact outAt_spec (F := Ideal) xs c
  · exact outAt_holds xs c

/-- The reference's array, of the whole input. -/
abbrev refOut (w : FVec Ideal Cert.ReferenceIdeal.S16384x512 .bf16) : FVec Ideal Cert.ReferenceIdeal.S2048x512 .bf16 :=
  truncf .bf16 (Host.reduceAdd (extf .f32 (shapeCast _ w Cert.ReferenceIdeal.Gen.shapeCasts_S16384x512_S8x2048x512) Cert.ReferenceIdeal.Gen.bitsLt_bf16_f32)
    (constant Cert.ReferenceIdeal.S_ .f32 0x00000000#32) Cert.ReferenceIdeal.Gen.reducesTo_S8x2048x512_S2048x512_d0 Cert.ReferenceIdeal.Gen.h_S_)
    Cert.ReferenceIdeal.Gen.bitsLt_bf16_f32

/-- It is the sum of the input's blocks. -/
theorem refOut_eq (w : FVec Ideal Cert.ReferenceIdeal.S16384x512 .bf16) (j : Cert.ReferenceIdeal.S2048x512.Idx) :
    refOut w j = ∑ d : Fin 8, Layout.block ⟨2, ![2048, 512]⟩ ⟨2, ![16384, 512]⟩ 0 8 d w (by decide) j := by
  idx_vars j
  pointwise [refOut, Layout.block]
  exact Finset.sum_congr rfl fun d _ => congrArg w (funext fun a => by fin_cases a <;> rfl)

/-- Where each device holds its block of the whole input, every device's result is the reference's array. -/
theorem outAt_ref (w : FVec Ideal Cert.ReferenceIdeal.S16384x512 .bf16)
    (h : ∀ c, xs c = Layout.block ⟨2, ![2048, 512]⟩ ⟨2, ![16384, 512]⟩ 0 8 c w (by decide)) (c : Dev nD) :
    outAt (F := Ideal) xs c = refOut w := by
  rw [outAt_total]
  funext j
  rw [refOut_eq]
  exact Finset.sum_congr rfl fun d _ => by rw [h d]

end Cert.KernelIdeal.AR

end
-- ==== Proof.lean ====
/-
# The claims about the all-reduce

The body of the kernel is followed once, at a symbolic device and for any float values (Body, over Prog to Stages), and
launched once (Launch). From that run come the frames of both readings of the kernel, and with the values in exact
arithmetic (Value) the equality with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The idealized kernel's text is the kernel's: what is said of one at the machine's own floats is said of the other. -/
theorem same_text : Cert.quiescent_Kernel = ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) := by
  sl_kernel_rfl

/-- The printed kernel runs, leaves its argument and every semaphore as they were. -/
theorem frame_kernel : Cert.quiescent_Kernel := by
  rw [same_text]
  exact fun m ρ _ => (θ_run Cert.KernelIdeal.defs _ _).mono (fun _ h => ⟨fun c => (h.1 c).2, h.2⟩) (Cert.KernelIdeal.AR.run_main (F := Bits) m ρ)

/-- So does the kernel read in exact arithmetic. -/
theorem frame_kernelIdeal : Cert.quiescent_KernelIdeal := fun m ρ _ =>
  (θ_run Cert.KernelIdeal.defs _ _).mono (fun _ h => ⟨fun c => (h.1 c).2, h.2⟩) (Cert.KernelIdeal.AR.run_main (F := Ideal) m ρ)

/-- And the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic every device's result is the reference's array. -/
theorem algebraic : Cert.algebraic_KernelIdeal_ReferenceIdeal := by
  intro m ρ m' ρ' _ h
  refine ⟨Cert.KernelIdeal.AR.refOut (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ hr c => ⟨((hr.1 c).1).trans (Cert.KernelIdeal.AR.outAt_ref _ _ (fun d => (Cert.KernelIdeal.AR.xin_eq m d).trans (h d)) c), (hr.1 c).2⟩)
      (Cert.KernelIdeal.AR.run_main (F := Ideal) m ρ)
  · exact (θ_run Cert.ReferenceIdeal.defs _ _).mono (fun _ hr => hr 0) (Cert.ReferenceIdeal.Value.run (F := Ideal) m' ρ')

/-- All the claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
